-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Reference (m : (ℓ : Loc Cert.Reference.nD Cert.Reference.τ Cert.Reference.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![1024, 2048]⟩ ⟨2, ![4096, 2048]⟩ (Layout.meshBlock [2, 4, 4] ![[2], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_arg0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![4096, 512]⟩ ⟨2, ![4096, 2048]⟩ (Layout.meshBlock [2, 4, 4] ![[], [2]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_arg0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def bitexact_Kernel_Reference [hKernel : Cert.Kernel.Facts] [hReference : Cert.Reference.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m ((c.tc : Thread Cert.Kernel.nD Cert.Kernel.τ).loc Cert.Kernel.main_arg0) = Layout.blockN ⟨2, ![1024, 2048]⟩ ⟨2, ![4096, 2048]⟩ (Layout.meshBlock [2, 4, 4] ![[2], []] c) (m' (((0 : Dev Cert.Reference.nD).tc : Thread Cert.Reference.nD Cert.Reference.τ).loc Cert.Reference.main_arg0))) →
    ∃ (v0 : Buf (Elt Bits) (((0 : Dev Cert.Reference.nD).tc : Thread Cert.Reference.nD Cert.Reference.τ).loc Cert.Reference.main_arg0)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v1) = Layout.blockN ⟨2, ![4096, 512]⟩ ⟨2, ![4096, 2048]⟩ (Layout.meshBlock [2, 4, 4] ![[], [2]] c) v0
          ∧ r.2.mem ((c.tc : Thread Cert.Kernel.nD Cert.Kernel.τ).loc Cert.Kernel.main_arg0) = m ((c.tc : Thread Cert.Kernel.nD Cert.Kernel.τ).loc Cert.Kernel.main_arg0))
      ∧ θ_run (Cert.Reference.defs (F := Bits)) (onTc (τ := Cert.Reference.τ) (Cert.Reference.main (F := Bits))) ⟨m', fun _ => 0, g'⟩ (fun r =>
          r.2.mem (((0 : Dev Cert.Reference.nD).tc : Thread Cert.Reference.nD Cert.Reference.τ).loc Cert.Reference.main_arg0) = v0
          ∧ r.2.mem (((0 : Dev Cert.Reference.nD).tc : Thread Cert.Reference.nD Cert.Reference.τ).loc Cert.Reference.main_arg0) = m' (((0 : Dev Cert.Reference.nD).tc : Thread Cert.Reference.nD Cert.Reference.τ).loc Cert.Reference.main_arg0))

def Claim : Prop :=
  ∃ (hKernel : Cert.Kernel.Facts) (hKernelIdeal : Cert.KernelIdeal.Facts) (hReferenceIdeal : Cert.ReferenceIdeal.Facts) (hReference : Cert.Reference.Facts),
    quiescent_Kernel (hKernel := hKernel)
    ∧ quiescent_KernelIdeal (hKernelIdeal := hKernelIdeal)
    ∧ quiescent_ReferenceIdeal (hReferenceIdeal := hReferenceIdeal)
    ∧ quiescent_Reference (hReference := hReference)
    ∧ preserves_Kernel_KernelIdeal
    ∧ algebraic_KernelIdeal_ReferenceIdeal (hKernelIdeal := hKernelIdeal) (hReferenceIdeal := hReferenceIdeal)
    ∧ bitexact_Kernel_Reference (hKernel := hKernel) (hReference := hReference)
-- ==== Kernel.lean ====
abbrev S1024x2048 : Shape := ⟨2, ![1024, 2048]⟩
abbrev S4096x512 : Shape := ⟨2, ![4096, 512]⟩
abbrev S3 : Shape := ⟨1, ![3]⟩
abbrev S_ : Shape := ⟨0, ![]⟩
abbrev S1024x512 : Shape := ⟨2, ![1024, 512]⟩
abbrev S1 : Shape := ⟨1, ![1]⟩

abbrev nBuf : Space → Nat
  | .hbm => 2
  | .vmem => 2
  | .smem => 0
  | _ => 0

abbrev bufTy : (tb : Table) → Fin (tcTables nBuf tb) → BufTy
  | .hbm, ⟨0, _⟩ => ⟨S1024x2048, .f32⟩
  | .hbm, ⟨1, _⟩ => ⟨S4096x512, .f32⟩
  | .local _ .vmem, ⟨0, _⟩ => ⟨S1024x2048, .f32⟩
  | .local _ .vmem, ⟨1, _⟩ => ⟨S4096x512, .f32⟩
  | _, _ => ⟨S1024x2048, .f32⟩

abbrev bufScoped : (cs : CoreSpace) → Fin (nBuf (.core cs)) → Bool
  | .vmem, ⟨0, _⟩ => true
  | .vmem, ⟨1, _⟩ => true
  | _, _ => false

abbrev semScoped : Fin 1 → Bool
  | ⟨0, _⟩ => false
  | _ => false

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  (ofTc nBuf bufTy 1 8 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_10 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_9 : BitVec 32 := 16#32
  let v21 : BitVec 32 := Scalar.muli v2 c16_i32_9
  let v22 : BitVec 32 := Scalar.addi c0_i32_10 v21
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_11 : BitVec 32 := 4#32
  let v23 : BitVec 32 := Scalar.muli v5 c4_i32_11
  let v24 : BitVec 32 := Scalar.addi v22 v23
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v10 : BitVec 32 := Scalar.addi v8 c1_i32_2
  let c4_i32_3 : BitVec 32 := 4#32
  let c0_i32 : BitVec 32 := 0#32
  let v11 : BitVec 1 := Scalar.cmpi .eq c4_i32_3 c0_i32
  let c1_i32_4 : BitVec 32 := 1#32
  let v12 : BitVec 32 := Scalar.select v11 c1_i32_4 c4_i32_3
  let v13 : BitVec 32 := Scalar.remsi v10 v12
  let c0_i32_6 : BitVec 32 := 0#32
  let v15 : BitVec 1 := Scalar.cmpi .slt v13 c0_i32_6
  let c0_i32_7 : BitVec 32 := 0#32
  let v16 : BitVec 1 := Scalar.cmpi .slt v12 c0_i32_7
  let v17 : BitVec 1 := Scalar.xori v15 v16
  let c0_i32_5 : BitVec 32 := 0#32
  let v14 : BitVec 1 := Scalar.cmpi .ne v13 c0_i32_5
  let v18 : BitVec 1 := Scalar.andi v17 v14
  let v19 : BitVec 32 := Scalar.addi v13 v12
  let v20 : BitVec 32 := Scalar.select v18 v19 v13
  let c1_i32_12 : BitVec 32 := 1#32
  let v25 : BitVec 32 := Scalar.muli v20 c1_i32_12
  let v26 : BitVec 32 := Scalar.addi v24 v25
  v26.toNat
def k0_dev2 (d0 : Dev nD) : Nat :=
  let c0_i32_22 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_21 : BitVec 32 := 16#32
  let v38 : BitVec 32 := Scalar.muli v2 c16_i32_21
  let v39 : BitVec 32 := Scalar.addi c0_i32_22 v38
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_23 : BitVec 32 := 4#32
  let v40 : BitVec 32 := Scalar.muli v5 c4_i32_23
  let v41 : BitVec 32 := Scalar.addi v39 v40
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_13 : BitVec 32 := 2#32
  let v27 : BitVec 32 := Scalar.addi v8 c2_i32_13
  let c4_i32_14 : BitVec 32 := 4#32
  let c0_i32_15 : BitVec 32 := 0#32
  let v28 : BitVec 1 := Scalar.cmpi .eq c4_i32_14 c0_i32_15
  let c1_i32_16 : BitVec 32 := 1#32
  let v29 : BitVec 32 := Scalar.select v28 c1_i32_16 c4_i32_14
  let v30 : BitVec 32 := Scalar.remsi v27 v29
  let c0_i32_18 : BitVec 32 := 0#32
  let v32 : BitVec 1 := Scalar.cmpi .slt v30 c0_i32_18
  let c0_i32_19 : BitVec 32 := 0#32
  let v33 : BitVec 1 := Scalar.cmpi .slt v29 c0_i32_19
  let v34 : BitVec 1 := Scalar.xori v32 v33
  let c0_i32_17 : BitVec 32 := 0#32
  let v31 : BitVec 1 := Scalar.cmpi .ne v30 c0_i32_17
  let v35 : BitVec 1 := Scalar.andi v34 v31
  let v36 : BitVec 32 := Scalar.addi v30 v29
  let v37 : BitVec 32 := Scalar.select v35 v36 v30
  let c1_i32_24 : BitVec 32 := 1#32
  let v42 : BitVec 32 := Scalar.muli v37 c1_i32_24
  let v43 : BitVec 32 := Scalar.addi v41 v42
  v43.toNat
def k0_dev3 (d0 : Dev nD) : Nat :=
  let c0_i32_33 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_32 : BitVec 32 := 16#32
  let v55 : BitVec 32 := Scalar.muli v2 c16_i32_32
  let v56 : BitVec 32 := Scalar.addi c0_i32_33 v55
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_34 : BitVec 32 := 4#32
  let v57 : BitVec 32 := Scalar.muli v5 c4_i32_34
  let v58 : BitVec 32 := Scalar.addi v56 v57
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v44 : BitVec 32 := Scalar.addi v8 c3_i32
  let c4_i32_25 : BitVec 32 := 4#32
  let c0_i32_26 : BitVec 32 := 0#32
  let v45 : BitVec 1 := Scalar.cmpi .eq c4_i32_25 c0_i32_26
  let c1_i32_27 : BitVec 32 := 1#32
  let v46 : BitVec 32 := Scalar.select v45 c1_i32_27 c4_i32_25
  let v47 : BitVec 32 := Scalar.remsi v44 v46
  let c0_i32_29 : BitVec 32 := 0#32
  let v49 : BitVec 1 := Scalar.cmpi .slt v47 c0_i32_29
  let c0_i32_30 : BitVec 32 := 0#32
  let v50 : BitVec 1 := Scalar.cmpi .slt v46 c0_i32_30
  let v51 : BitVec 1 := Scalar.xori v49 v50
  let c0_i32_28 : BitVec 32 := 0#32
  let v48 : BitVec 1 := Scalar.cmpi .ne v47 c0_i32_28
  let v52 : BitVec 1 := Scalar.andi v51 v48
  let v53 : BitVec 32 := Scalar.addi v47 v46
  let v54 : BitVec 32 := Scalar.select v52 v53 v47
  let c1_i32_35 : BitVec 32 := 1#32
  let v59 : BitVec 32 := Scalar.muli v54 c1_i32_35
  let v60 : BitVec 32 := Scalar.addi v58 v59
  v60.toNat
def k0_off1 (d0 : Dev nD) : Fin 2 → Nat :=
  let c0 : Index := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c512_i32 : BitVec 32 := 512#32
  let v61 : BitVec 32 := Scalar.muli v8 c512_i32
  let v62 : Index := Scalar.indexCast v61
  ![0, v62.toNat]
def k0_off2 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1024_i32 : BitVec 32 := 1024#32
  let v65 : BitVec 32 := Scalar.muli v8 c1024_i32
  let v66 : Index := Scalar.indexCast v65
  let c0_37 : Index := 0#32
  ![v66.toNat, 0]
def k0_off3 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1024_i32_46 : BitVec 32 := 1024#32
  let v80 : BitVec 32 := Scalar.muli v8 c1024_i32_46
  let c0_i32_53 : BitVec 32 := 0#32
  ![v80.toNat, 0]
def k0_off4 (d0 : Dev nD) (c1_i32_38 : BitVec 32) : Fin 2 → Nat :=
  let c0_i32_54 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v68 : BitVec 32 := Scalar.addi v8 c1_i32_38
  let c4_i32_39 : BitVec 32 := 4#32
  let c0_i32_40 : BitVec 32 := 0#32
  let v69 : BitVec 1 := Scalar.cmpi .eq c4_i32_39 c0_i32_40
  let c1_i32_41 : BitVec 32 := 1#32
  let v70 : BitVec 32 := Scalar.select v69 c1_i32_41 c4_i32_39
  let v71 : BitVec 32 := Scalar.remsi v68 v70
  let c0_i32_43 : BitVec 32 := 0#32
  let v73 : BitVec 1 := Scalar.cmpi .slt v71 c0_i32_43
  let c0_i32_44 : BitVec 32 := 0#32
  let v74 : BitVec 1 := Scalar.cmpi .slt v70 c0_i32_44
  let v75 : BitVec 1 := Scalar.xori v73 v74
  let c0_i32_42 : BitVec 32 := 0#32
  let v72 : BitVec 1 := Scalar.cmpi .ne v71 c0_i32_42
  let v76 : BitVec 1 := Scalar.andi v75 v72
  let v77 : BitVec 32 := Scalar.addi v71 v70
  let v78 : BitVec 32 := Scalar.select v76 v77 v71
  let c512_i32_45 : BitVec 32 := 512#32
  let v79 : BitVec 32 := Scalar.muli v78 c512_i32_45
  ![0, v79.toNat]
def k0_dev4 (d0 : Dev nD) : Nat :=
  let c0_i32_50 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_49 : BitVec 32 := 16#32
  let v81 : BitVec 32 := Scalar.muli v2 c16_i32_49
  let v82 : BitVec 32 := Scalar.addi c0_i32_50 v81
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_51 : BitVec 32 := 4#32
  let v83 : BitVec 32 := Scalar.muli v5 c4_i32_51
  let v84 : BitVec 32 := Scalar.addi v82 v83
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_38 : BitVec 32 := 1#32
  let v68 : BitVec 32 := Scalar.addi v8 c1_i32_38
  let c4_i32_39 : BitVec 32 := 4#32
  let c0_i32_40 : BitVec 32 := 0#32
  let v69 : BitVec 1 := Scalar.cmpi .eq c4_i32_39 c0_i32_40
  let c1_i32_41 : BitVec 32 := 1#32
  let v70 : BitVec 32 := Scalar.select v69 c1_i32_41 c4_i32_39
  let v71 : BitVec 32 := Scalar.remsi v68 v70
  let c0_i32_43 : BitVec 32 := 0#32
  let v73 : BitVec 1 := Scalar.cmpi .slt v71 c0_i32_43
  let c0_i32_44 : BitVec 32 := 0#32
  let v74 : BitVec 1 := Scalar.cmpi .slt v70 c0_i32_44
  let v75 : BitVec 1 := Scalar.xori v73 v74
  let c0_i32_42 : BitVec 32 := 0#32
  let v72 : BitVec 1 := Scalar.cmpi .ne v71 c0_i32_42
  let v76 : BitVec 1 := Scalar.andi v75 v72
  let v77 : BitVec 32 := Scalar.addi v71 v70
  let v78 : BitVec 32 := Scalar.select v76 v77 v71
  let c1_i32_52 : BitVec 32 := 1#32
  let v85 : BitVec 32 := Scalar.muli v78 c1_i32_52
  let v86 : BitVec 32 := Scalar.addi v84 v85
  v86.toNat
def k0_dev5 (d0 : Dev nD) : Nat :=
  let c0_i32_67 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_66 : BitVec 32 := 16#32
  let v106 : BitVec 32 := Scalar.muli v2 c16_i32_66
  let v107 : BitVec 32 := Scalar.addi c0_i32_67 v106
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_68 : BitVec 32 := 4#32
  let v108 : BitVec 32 := Scalar.muli v5 c4_i32_68
  let v109 : BitVec 32 := Scalar.addi v107 v108
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_55 : BitVec 32 := 2#32
  let v93 : BitVec 32 := Scalar.addi v8 c2_i32_55
  let c4_i32_56 : BitVec 32 := 4#32
  let c0_i32_57 : BitVec 32 := 0#32
  let v94 : BitVec 1 := Scalar.cmpi .eq c4_i32_56 c0_i32_57
  let c1_i32_58 : BitVec 32 := 1#32
  let v95 : BitVec 32 := Scalar.select v94 c1_i32_58 c4_i32_56
  let v96 : BitVec 32 := Scalar.remsi v93 v95
  let c0_i32_60 : BitVec 32 := 0#32
  let v98 : BitVec 1 := Scalar.cmpi .slt v96 c0_i32_60
  let c0_i32_61 : BitVec 32 := 0#32
  let v99 : BitVec 1 := Scalar.cmpi .slt v95 c0_i32_61
  let v100 : BitVec 1 := Scalar.xori v98 v99
  let c0_i32_59 : BitVec 32 := 0#32
  let v97 : BitVec 1 := Scalar.cmpi .ne v96 c0_i32_59
  let v101 : BitVec 1 := Scalar.andi v100 v97
  let v102 : BitVec 32 := Scalar.addi v96 v95
  let v103 : BitVec 32 := Scalar.select v101 v102 v96
  let c1_i32_69 : BitVec 32 := 1#32
  let v110 : BitVec 32 := Scalar.muli v103 c1_i32_69
  let v111 : BitVec 32 := Scalar.addi v109 v110
  v111.toNat
def k0_dev6 (d0 : Dev nD) : Nat :=
  let c0_i32_84 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_83 : BitVec 32 := 16#32
  let v131 : BitVec 32 := Scalar.muli v2 c16_i32_83
  let v132 : BitVec 32 := Scalar.addi c0_i32_84 v131
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_85 : BitVec 32 := 4#32
  let v133 : BitVec 32 := Scalar.muli v5 c4_i32_85
  let v134 : BitVec 32 := Scalar.addi v132 v133
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_72 : BitVec 32 := 3#32
  let v118 : BitVec 32 := Scalar.addi v8 c3_i32_72
  let c4_i32_73 : BitVec 32 := 4#32
  let c0_i32_74 : BitVec 32 := 0#32
  let v119 : BitVec 1 := Scalar.cmpi .eq c4_i32_73 c0_i32_74
  let c1_i32_75 : BitVec 32 := 1#32
  let v120 : BitVec 32 := Scalar.select v119 c1_i32_75 c4_i32_73
  let v121 : BitVec 32 := Scalar.remsi v118 v120
  let c0_i32_77 : BitVec 32 := 0#32
  let v123 : BitVec 1 := Scalar.cmpi .slt v121 c0_i32_77
  let c0_i32_78 : BitVec 32 := 0#32
  let v124 : BitVec 1 := Scalar.cmpi .slt v120 c0_i32_78
  let v125 : BitVec 1 := Scalar.xori v123 v124
  let c0_i32_76 : BitVec 32 := 0#32
  let v122 : BitVec 1 := Scalar.cmpi .ne v121 c0_i32_76
  let v126 : BitVec 1 := Scalar.andi v125 v122
  let v127 : BitVec 32 := Scalar.addi v121 v120
  let v128 : BitVec 32 := Scalar.select v126 v127 v121
  let c1_i32_86 : BitVec 32 := 1#32
  let v135 : BitVec 32 := Scalar.muli v128 c1_i32_86
  let v136 : BitVec 32 := Scalar.addi v134 v135
  v136.toNat
abbrev stage0_0 : Fin 1 → Memref sig .tc .vmem S1024x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Reference.lean ====
abbrev S4096x2048 : Shape := ⟨2, ![4096, 2048]⟩

abbrev nBuf : Space → Nat
  | .hbm => 1
  | .vmem => 0
  | .smem => 0
  | _ => 0

abbrev bufTy : (tb : Table) → Fin (tcTables nBuf tb) → BufTy
  | .hbm, ⟨0, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩

abbrev nD : Nat := 1
abbrev τ : Topo := Topo.v7x

variable {F : FTy → Type} [FloatOps F]
-- ==== Proof.Peers.lean ====
/-
  The mesh of the exchange: 32 devices in eight groups of four (the z axis is innermost), each device exchanging
  blocks with the other three of its group. The peers of a device, and which peer each of the kernel's
  device-id chains and each of its block offsets names.
-/
module

public import proofs.«01_k».proof.Proof.Gen.KernelIdeal

@[expose] public section

namespace Cert.Exchange

open Cert.KernelIdeal Cert.KernelIdeal.Gen
open Idealize.ShloMosaic Idealize.ShloMosaic.TcCoe

/-- How far round its group a block's other device is: a device's own block is `none`, the block it exchanges in
    its `k`-th transfer is `k + 1` places further. -/
def hop : Option (Fin 3) → Nat
  | none => 0
  | some k => k.val + 1

set_option backward.proofsInPublic true in
/-- The device `hop o` places after `c` in `c`'s group of four. -/
def peer (o : Option (Fin 3)) (c : Dev nD) : Dev nD :=
  ⟨c.val / 4 * 4 + (c.val % 4 + hop o) % 4, by
    have h : c.val < 32 := c.isLt
    show _ < 32
    omega⟩

/-- The device that `c`'s transfer `k` goes to. -/
abbrev rot (k : Fin 3) (c : Dev nD) : Dev nD := peer (some k) c

theorem peer_val (o : Option (Fin 3)) (c : Dev nD) : (peer o c).val = c.val / 4 * 4 + (c.val % 4 + hop o) % 4 := rfl

theorem peer_none (c : Dev nD) : peer none c = c := by
  apply Fin.ext; rw [peer_val]; show c.val / 4 * 4 + (c.val % 4 + 0) % 4 = c.val; omega

/-- Going round by `k + 1` and then by `3 - k` is going round once. -/
theorem rot_rev_rot : ∀ (k : Fin 3) (c : Dev nD), rot k.rev (rot k c) = c := by decide +kernel

theorem rot_rot_rev (k : Fin 3) (c : Dev nD) : rot k (rot k.rev c) = c := by
  have h := rot_rev_rot k.rev c
  rwa [Fin.rev_rev] at h

theorem rot_eq_iff {k : Fin 3} {a b : Dev nD} : rot k a = b ↔ a = rot k.rev b :=
  ⟨fun h => by rw [← h, rot_rev_rot], fun h => by rw [h, rot_rot_rev]⟩

theorem rot_inj {k : Fin 3} {a b : Dev nD} (h : rot k a = rot k b) : a = b := by
  rw [rot_eq_iff.mp h, rot_rev_rot]

/-- A device and a transfer of it, against the device that transfer reaches and the transfer that goes back. -/
def mirror : Dev nD × Fin 3 ≃ Dev nD × Fin 3 where
  toFun x := (rot x.2 x.1, x.2.rev)
  invFun x := (rot x.2 x.1, x.2.rev)
  left_inv x := Prod.ext (rot_rev_rot x.2 x.1) (Fin.rev_rev x.2)
  right_inv x := Prod.ext (rot_rev_rot x.2 x.1) (Fin.rev_rev x.2)

/-- A device and a transfer of it, against the device that transfer reaches and the transfer itself. -/
def along : Dev nD × Fin 3 ≃ Dev nD × Fin 3 where
  toFun x := (rot x.2 x.1, x.2)
  invFun x := (rot x.2.rev x.1, x.2)
  left_inv x := Prod.ext (rot_rev_rot x.2 x.1) rfl
  right_inv x := Prod.ext (rot_rot_rev x.2 x.1) rfl

/-! ## The kernel's device ids and offsets -/

theorem signal0_eq : ∀ c : Dev nD, (⟨k0_dev1 c, k0_dev1_lt c⟩ : Dev nD) = rot 0 c := by decide +kernel
theorem signal1_eq : ∀ c : Dev nD, (⟨k0_dev2 c, k0_dev2_lt c⟩ : Dev nD) = rot 1 c := by decide +kernel
theorem signal2_eq : ∀ c : Dev nD, (⟨k0_dev3 c, k0_dev3_lt c⟩ : Dev nD) = rot 2 c := by decide +kernel
theorem target0_eq : ∀ c : Dev nD, (⟨k0_dev4 c, k0_dev4_lt c⟩ : Dev nD) = rot 0 c := by decide +kernel
theorem target1_eq : ∀ c : Dev nD, (⟨k0_dev5 c, k0_dev5_lt c⟩ : Dev nD) = rot 1 c := by decide +kernel
theorem target2_eq : ∀ c : Dev nD, (⟨k0_dev6 c, k0_dev6_lt c⟩ : Dev nD) = rot 2 c := by decide +kernel

/-- The columns that device `c`'s transfer `k` sends start at its peer's place in the group. -/
theorem off4_eq : ∀ (c : Dev nD) (k : Fin 3),
    k0_off4 c (BitVec.ofNat 32 (1 + k.val)) = ![0, 512 * ((c.val % 4 + hop (some k)) % 4)] := by decide +kernel

end Cert.Exchange
-- ==== Proof.Tiles.lean ====
/-
  How the two staging buffers of a device are cut. The input block (1024 × 2048) is cut in four bands of 512 columns,
  one for each device of the group; the result block (4096 × 512) in four bands of 1024 rows, one from each device of
  the group. The bands of a buffer are disjoint and cover it.
-/
module

public import proofs.«01_k».proof.Proof.Peers
public import Idealize.ShloMosaic.Lib.ViewIndex

@[expose] public section

namespace Cert.Exchange

open Cert.KernelIdeal Cert.KernelIdeal.Gen
open Idealize.ShloMosaic Idealize.ShloMosaic.TcCoe

/-- The input's and the result's staging buffers. -/
abbrev xM : Memref sig .tc .vmem S1024x2048 .f32 := Memref.whole cc0_stg0_0
abbrev oM : Memref sig .tc .vmem S4096x512 .f32 := Memref.whole cc0_stg1_0

/-- The columns of device `c`'s input that its transfer `k` sends. -/
abbrev colRect (c : Dev nD) (k : Fin 3) : Rect S1024x2048 :=
  Rect.unit (s := S1024x2048) (k0_off4 c (BitVec.ofNat 32 (1 + k.val))) S1024x512.size (k0_off4_inb c k)
/-- The columns of device `c`'s input that it keeps. -/
abbrev ownColRect (c : Dev nD) : Rect S1024x2048 :=
  Rect.unit (s := S1024x2048) (k0_off1 c) S1024x512.size (k0_off1_inb c)
/-- The rows of a result that come from device `p`, as a transfer names them; -/
abbrev rowRect (p : Dev nD) : Rect S4096x512 :=
  Rect.unit (s := S4096x512) (k0_off3 p) S1024x512.size (k0_off3_inb p)
/-- and as the kernel's store of its own columns does. -/
abbrev ownRowRect (c : Dev nD) : Rect S4096x512 :=
  Rect.unit (s := S4096x512) (k0_off2 c) S1024x512.size (k0_off2_inb c)

theorem ownRowRect_eq (c : Dev nD) : ownRowRect c = rowRect c :=
  Rect.unit_congr ((k0_off2_eq c).trans (k0_off3_eq c).symm) _ _

abbrev xCol (c : Dev nD) (k : Fin 3) : Memref sig .tc .vmem S1024x512 .f32 := xM.slice (colRect c k) (fun _ => rfl)
abbrev oRow (p : Dev nD) : Memref sig .tc .vmem S1024x512 .f32 := oM.slice (rowRect p) (fun _ => rfl)

/-- The elements of the input block in the band of columns for the device `hop o` places on. -/
def colSet (c : Dev nD) : Option (Fin 3) → Finset S1024x2048.Idx
  | none => (ownColRect c).set
  | some k => (colRect c k).set
/-- The elements of a result block in the band of rows from device `p`. -/
def rowSet (p : Dev nD) : Finset S4096x512.Idx := (rowRect p).set

theorem xCol_set (c : Dev nD) (k : Fin 3) : (xCol c k).view.set = colSet c (some k) := View.set_slice_whole _ _
theorem oRow_set (p : Dev nD) : (oRow p).view.set = rowSet p := View.set_slice_whole _ _

theorem mem_colSet {c : Dev nD} {o : Option (Fin 3)} {i : S1024x2048.Idx} :
    i ∈ colSet c o ↔ 512 * ((c.val % 4 + hop o) % 4) ≤ (i 1).val ∧ (i 1).val < 512 * ((c.val % 4 + hop o) % 4) + 512 := by
  have hi : (i 0).val < 1024 := (i 0).isLt
  cases o with
  | none =>
    show i ∈ (ownColRect c).set ↔ _
    have h1 : k0_off1 c 1 = 512 * (c.val % 4) := congrFun (k0_off1_eq c) 1
    have h0 : k0_off1 c 0 = 0 := congrFun (k0_off1_eq c) 0
    rw [Rect.mem_set_unit, Fin.forall_fin_two, h0, h1]
    show (0 ≤ (i 0).val ∧ (i 0).val < 0 + 1024) ∧ _ ∧ (i 1).val < 512 * (c.val % 4) + 512 ↔
      512 * ((c.val % 4 + 0) % 4) ≤ (i 1).val ∧ (i 1).val < 512 * ((c.val % 4 + 0) % 4) + 512
    omega
  | some k =>
    show i ∈ (colRect c k).set ↔ _
    have h1 := congrFun (off4_eq c k) 1
    have h0 := congrFun (off4_eq c k) 0
    rw [Rect.mem_set_unit, Fin.forall_fin_two, h0, h1]
    show (0 ≤ (i 0).val ∧ (i 0).val < 0 + 1024) ∧
      512 * ((c.val % 4 + hop (some k)) % 4) ≤ (i 1).val ∧ (i 1).val < 512 * ((c.val % 4 + hop (some k)) % 4) + 512 ↔ _
    omega

theorem mem_rowSet {p : Dev nD} {i : S4096x512.Idx} :
    i ∈ rowSet p ↔ 1024 * (p.val % 4) ≤ (i 0).val ∧ (i 0).val < 1024 * (p.val % 4) + 1024 := by
  have hi : (i 1).val < 512 := (i 1).isLt
  have h0 : k0_off3 p 0 = 1024 * (p.val % 4) := congrFun (k0_off3_eq p) 0
  have h1 : k0_off3 p 1 = 0 := congrFun (k0_off3_eq p) 1
  unfold rowSet
  rw [Rect.mem_set_unit, Fin.forall_fin_two, h0, h1]
  show (_ ∧ (i 0).val < 1024 * (p.val % 4) + 1024) ∧ 0 ≤ (i 1).val ∧ (i 1).val < 0 + 512 ↔ _
  omega

/-- Two blocks of a device are of different devices of its group. -/
theorem hop_ne {o o' : Option (Fin 3)} (h : o ≠ o') (z : Nat) : (z % 4 + hop o) % 4 ≠ (z % 4 + hop o') % 4 := by
  have key : hop o ≠ hop o' ∧ hop o < 4 ∧ hop o' < 4 := by revert h; revert o o'; decide
  omega

/-- Every device of a device's group is some number of places on. -/
theorem exists_hop (z b : Nat) (hb : b < 4) : ∃ o, (z % 4 + hop o) % 4 = b := by
  have h : (b + 4 - z % 4) % 4 = 0 ∨ (b + 4 - z % 4) % 4 = 1 ∨ (b + 4 - z % 4) % 4 = 2 ∨ (b + 4 - z % 4) % 4 = 3 := by omega
  rcases h with h | h | h | h
  · exact ⟨none, show (z % 4 + 0) % 4 = b by omega⟩
  · exact ⟨some 0, show (z % 4 + 1) % 4 = b by omega⟩
  · exact ⟨some 1, show (z % 4 + 2) % 4 = b by omega⟩
  · exact ⟨some 2, show (z % 4 + 3) % 4 = b by omega⟩

theorem colSet_disjoint (c : Dev nD) (o o' : Option (Fin 3)) (h : o ≠ o') : Disjoint (colSet c o) (colSet c o') :=
  Finset.disjoint_left.mpr fun i h1 h2 => by
    rw [mem_colSet] at h1 h2
    have := hop_ne h c.val
    omega

theorem colSet_cover (c : Dev nD) : Finset.univ.biUnion (colSet c) = Finset.univ :=
  Finset.eq_univ_iff_forall.mpr fun i => by
    have hi : (i 1).val < 2048 := (i 1).isLt
    obtain ⟨o, ho⟩ := exists_hop c.val ((i 1).val / 512) (by omega)
    exact Finset.mem_biUnion.mpr ⟨o, Finset.mem_univ _, mem_colSet.mpr (by rw [ho]; omega)⟩

theorem peer_mod (o : Option (Fin 3)) (c : Dev nD) : (peer o c).val % 4 = (c.val % 4 + hop o) % 4 := by
  rw [peer_val]; omega

theorem rowSet_disjoint (c : Dev nD) (o o' : Option (Fin 3)) (h : o ≠ o') :
    Disjoint (rowSet (peer o c)) (rowSet (peer o' c)) :=
  Finset.disjoint_left.mpr fun i h1 h2 => by
    rw [mem_rowSet, peer_mod] at h1 h2
    have := hop_ne h c.val
    omega

theorem rowSet_cover (c : Dev nD) : (Finset.univ.biUnion fun o => rowSet (peer o c)) = Finset.univ :=
  Finset.eq_univ_iff_forall.mpr fun i => by
    have hi : (i 0).val < 4096 := (i 0).isLt
    obtain ⟨o, ho⟩ := exists_hop c.val ((i 0).val / 1024) (by omega)
    exact Finset.mem_biUnion.mpr ⟨o, Finset.mem_univ _, mem_rowSet.mpr (by rw [peer_mod, ho]; omega)⟩

end Cert.Exchange
-- ==== Proof.Contents.lean ====
/-
  What the exchange leaves in each device's result: the bands of columns that the four devices of its group hold for it,
  one under another. The own band is a vector load and a store, the three others are transfers; each writes exactly its
  band of this result.
-/
module

public import proofs.«01_k».proof.Proof.Tiles
public import proofs.«01_k».proof.Proof.Gen.KernelIdeal.Skeleton

@[expose] public section

noncomputable section

namespace Cert.Exchange

open Cert.KernelIdeal Cert.KernelIdeal.Gen
open Idealize.ShloMosaic Idealize.ShloMosaic.TcCoe

variable {α : Type} {F : FTy → Type} [FloatOps F]

set_option backward.proofsInPublic true in
/-- The device that row `r` of device `c`'s result comes from. -/
def sender (c : Dev nD) (r : Fin 4096) : Dev nD :=
  ⟨c.val / 4 * 4 + r.val / 1024, by
    have hc : c.val < 32 := c.isLt
    have hr := r.isLt
    show _ < 32
    omega⟩

set_option backward.proofsInPublic true in
/-- Where in its sender's input block element `i` of device `c`'s result is. -/
def origin (c : Dev nD) (i : S4096x512.Idx) : S1024x2048.Idx :=
  Shape.pair ⟨(i 0).val % 1024, Nat.mod_lt _ (by decide)⟩
    ⟨512 * (c.val % 4) + (i 1).val, by
      have hi : (i 1).val < 512 := (i 1).isLt
      show _ < 2048
      omega⟩

/-- Device `c`'s result from the input blocks `xs` of all devices. -/
def gathered (xs : Dev nD → S1024x2048.Idx → α) (c : Dev nD) : S4096x512.Idx → α :=
  fun i => xs (sender c (i 0)) (origin c i)

theorem origin_zero (c : Dev nD) (i : S4096x512.Idx) : (origin c i 0).val = (i 0).val % 1024 := rfl
theorem origin_one (c : Dev nD) (i : S4096x512.Idx) : (origin c i 1).val = 512 * (c.val % 4) + (i 1).val := rfl

theorem idx2_ext {d : Fin 2 → Nat} {x y : (⟨2, d⟩ : Shape).Idx} (h0 : (x 0).val = (y 0).val) (h1 : (x 1).val = (y 1).val) : x = y :=
  funext fun a => by
    match a with
    | ⟨0, _⟩ => exact Fin.ext h0
    | ⟨1, _⟩ => exact Fin.ext h1

/-- The result at an element, by the coordinates of where it comes from. -/
theorem gathered_eq (xs : Dev nD → S1024x2048.Idx → α) {c d : Dev nD} {i : S4096x512.Idx} {j : S1024x2048.Idx}
    (hd : d.val = c.val / 4 * 4 + (i 0).val / 1024) (h0 : (j 0).val = (i 0).val % 1024)
    (h1 : (j 1).val = 512 * (c.val % 4) + (i 1).val) : xs d j = gathered xs c i := by
  have e1 : d = sender c (i 0) := Fin.ext hd
  have e2 : j = origin c i := idx2_ext (h0.trans (origin_zero c i).symm) (h1.trans (origin_one c i).symm)
  rw [e1, e2]; rfl

/-- A transfer lands its band: what device `c` sends to the device `k + 1` places on, written over the band of rows
    that is from `c`, agrees on that band with the result of that device. -/
theorem landed (xs : Dev nD → S1024x2048.Idx → Elt F .f32) (c : Dev nD) (k : Fin 3) (f : S4096x512.Idx → Elt F .f32)
    (i : S4096x512.Idx) (hi : i ∈ (oRow c).view.set) :
    (oRow c).view.write (Elt F) f ((xCol c k).view.read (Elt F) (xs c)) Finset.univ i = gathered xs (rot k c) i := by
  obtain ⟨x, -, rfl⟩ := Finset.mem_map.mp hi
  rw [View.write_emb_of_mem _ _ (Finset.mem_univ x), View.read_apply]
  have hx0 : (x 0).val < 1024 := (x 0).isLt
  have hx1 : (x 1).val < 512 := (x 1).isLt
  have hc : c.val < 32 := c.isLt
  have r0 : ((oRow c).view.emb x 0).val = 1024 * (c.val % 4) + (x 0).val := by
    show k0_off3 c 0 + 1 * (x 0).val = _
    rw [congrFun (k0_off3_eq c) 0, Nat.one_mul]; rfl
  have r1 : ((oRow c).view.emb x 1).val = (x 1).val := by
    show k0_off3 c 1 + 1 * (x 1).val = _
    rw [congrFun (k0_off3_eq c) 1, Nat.one_mul]; exact Nat.zero_add _
  have q0 : ((xCol c k).view.emb x 0).val = (x 0).val := by
    show k0_off4 c (BitVec.ofNat 32 (1 + k.val)) 0 + 1 * (x 0).val = _
    rw [congrFun (off4_eq c k) 0, Nat.one_mul]; exact Nat.zero_add _
  have q1 : ((xCol c k).view.emb x 1).val = 512 * ((c.val % 4 + hop (some k)) % 4) + (x 1).val := by
    show k0_off4 c (BitVec.ofNat 32 (1 + k.val)) 1 + 1 * (x 1).val = _
    rw [congrFun (off4_eq c k) 1, Nat.one_mul]; rfl
  have hp := peer_val (some k) c
  have hm := peer_mod (some k) c
  refine gathered_eq xs (j := (xCol c k).view.emb x) ?_ ?_ ?_
  · rw [r0, hp]; omega
  · rw [r0, q0]; omega
  · rw [r1, q1, hm]

/-- The kernel stores its own columns as they are. -/
theorem stored_eq (w : Vec F S1024x512 .f32) : k0_pay1 w = w :=
  funext fun i => congrArg w (Shape.reshapeEquiv_self _ i)

/-- The own band: the own columns, stored over the own band of rows, agree there with the device's result. -/
theorem kept (xs : Dev nD → S1024x2048.Idx → Elt F .f32) (c : Dev nD) (f : S4096x512.Idx → Elt F .f32)
    (i : S4096x512.Idx) (hi : i ∈ rowSet c) :
    (oM.access (ownRowRect c)).write (Elt F) f (k0_pay1 (xM.view.readAt (Elt F) (ownColRect c).toLoadRect (xs c))) Finset.univ i
      = gathered xs c i := by
  have hi' : i ∈ (oM.access (ownRowRect c)).set := by
    rw [ownRowRect_eq]; exact (oRow_set c).symm ▸ hi
  rw [stored_eq]
  obtain ⟨x, -, rfl⟩ := Finset.mem_map.mp hi'
  rw [View.write_emb_of_mem _ _ (Finset.mem_univ x)]
  have hx0 : (x 0).val < 1024 := (x 0).isLt
  have r0 : ((oM.access (ownRowRect c)).emb x 0).val = 1024 * (c.val % 4) + (x 0).val := by
    show k0_off2 c 0 + 1 * (x 0).val = _
    rw [congrFun (k0_off2_eq c) 0, Nat.one_mul]; rfl
  have r1 : ((oM.access (ownRowRect c)).emb x 1).val = (x 1).val := by
    show k0_off2 c 1 + 1 * (x 1).val = _
    rw [congrFun (k0_off2_eq c) 1, Nat.one_mul]; exact Nat.zero_add _
  have q0 : ((ownColRect c).idx x 0).val = (x 0).val := by
    show k0_off1 c 0 + 1 * (x 0).val = _
    rw [congrFun (k0_off1_eq c) 0, Nat.one_mul]; exact Nat.zero_add _
  have q1 : ((ownColRect c).idx x 1).val = 512 * (c.val % 4) + (x 1).val := by
    show k0_off1 c 1 + 1 * (x 1).val = _
    rw [congrFun (k0_off1_eq c) 1, Nat.one_mul]; rfl
  refine gathered_eq xs (j := (ownColRect c).idx x) ?_ ?_ ?_
  · rw [r0]; omega
  · rw [r0, q0]; omega
  · rw [r1, q1]

end Cert.Exchange

end
-- ==== Proof.Schedule.lean ====
/-
  The protocol of the exchange. A device has seven semaphores in play: the barrier semaphore, three that its own
  transfers signal when their source is free again, and three that the transfers into it signal when they have landed.
  Each is used for one round.

  The barrier of device `p` expects one unit from each of the three other devices of its group. With its unit a device
  hands over the band of its result block that is to come from `p`. So when `p` has its three units it owns, on each of the three
  others, the band that its transfer there writes.

  A send semaphore returns the band of columns a transfer read; a receive semaphore brings the band of rows a
  transfer wrote, at the contents of the device's result.
-/
module

public import proofs.«01_k».proof.Proof.Contents
public import Idealize.ShloMosaic.Lib.Pipeline.Launch
public import Idealize.ShloMosaic.Lib.Ring
public import Idealize.ShloMosaic.Lib.Tactic

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## Resources -/

/-- The protocol's ghost state names the duties of a round by `Fin 3`. -/
abbrev UX : Type := URounds (GSem nD τ sig) (Fin 3)
abbrev UU : Type := UR sig nD τ × UX

local notation "𝕄" => MT nD τ sig Unit (Elt F) ℕ UU ℕ

abbrev EP : Emb (UR sig nD τ) (MT nD τ sig Unit (Elt F) ℕ UU ℕ) := embL
abbrev EX : Emb UX (MT nD τ sig Unit (Elt F) ℕ UU ℕ) := embR

/-- The input blocks of all devices. -/
abbrev Inputs (F : FTy → Type) : Type := Dev nD → (cc0_stg0_0 : Ref sig .tc).ty.Contents (Elt F)

variable (xs : Inputs F)

/-! ## Semaphores -/

/-- The barrier semaphore. -/
abbrev barS : Sem sig := (SemArray.scalar (sig.barrier 0 rfl) : Sems sig S_).sem

/-- The six semaphores of the kernel's own: the three send ones, then the three receive ones. -/
abbrev osem (j : Fin 6) : SemLoc sig := .dma ⟨2 + j.val, by show _ < 8; omega⟩
abbrev sendAt (k : Fin 3) : Fin 6 := ⟨k.val, by omega⟩
abbrev recvAt (k : Fin 3) : Fin 6 := ⟨3 + k.val, by omega⟩

/-- All seven: the barrier first. -/
abbrev csem : Fin 7 → SemLoc sig
  | ⟨0, _⟩ => .reg barS
  | ⟨j + 1, h⟩ => osem ⟨j, by omega⟩

abbrev cell (x : Dev nD × Fin 7) : GSem nD τ sig := ((x.1 : Thread nD τ), csem x.2)
abbrev barCell (c : Dev nD) : GSem nD τ sig := ((c : Thread nD τ), .reg barS)
abbrev ownCell (c : Dev nD) (j : Fin 6) : GSem nD τ sig := ((c : Thread nD τ), osem j)
abbrev sendCell (c : Dev nD) (k : Fin 3) : GSem nD τ sig := ownCell c (sendAt k)
abbrev recvCell (c : Dev nD) (k : Fin 3) : GSem nD τ sig := ownCell c (recvAt k)

theorem osem_injective : Function.Injective osem := by
  intro i j h
  have h2 : 2 + i.val = 2 + j.val := congrArg (fun s : SemLoc sig => match s with | .dma q => q.val | .reg _ => 0) h
  exact Fin.ext (by omega)

theorem csem_injective : Function.Injective csem := by
  rintro ⟨i, hi⟩ ⟨j, hj⟩ h
  rcases i with _ | i <;> rcases j with _ | j
  · rfl
  · exact absurd (show (SemLoc.reg barS : SemLoc sig) = osem ⟨j, by omega⟩ from h) (fun h' => by cases h')
  · exact absurd (show osem ⟨i, by omega⟩ = (SemLoc.reg barS : SemLoc sig) from h) (fun h' => by cases h')
  · have := congrArg Fin.val (osem_injective (show osem ⟨i, by omega⟩ = osem ⟨j, by omega⟩ from h))
    exact Fin.ext (congrArg (· + 1) this)

theorem cell_injective : Function.Injective cell := by
  rintro ⟨c, i⟩ ⟨d, j⟩ h
  have h1 : c = d := congrArg (fun g : GSem nD τ sig => g.1.1) h
  have h2 : i = j := csem_injective (congrArg Prod.snd h)
  rw [h1, h2]

theorem barCell_ne_ownCell (c d : Dev nD) (j : Fin 6) : barCell c ≠ ownCell d j := fun h => by cases congrArg Prod.snd h

theorem barCell_eq_iff {c d : Dev nD} : barCell c = barCell d ↔ c = d :=
  ⟨fun h => congrArg (fun g : GSem nD τ sig => g.1.1) h, fun h => h ▸ rfl⟩

theorem ownCell_eq_iff {c d : Dev nD} {i j : Fin 6} : ownCell c i = ownCell d j ↔ c = d ∧ i = j :=
  ⟨fun h => ⟨congrArg (fun g : GSem nD τ sig => g.1.1) h, osem_injective (congrArg Prod.snd h)⟩, fun h => by rw [h.1, h.2]⟩

theorem recvAt_eq_iff {k l : Fin 3} : recvAt k = recvAt l ↔ k = l :=
  ⟨fun h => Fin.ext (by have := congrArg Fin.val h; simp only at this; omega), fun h => h ▸ rfl⟩

/-- A band's transfer signals some positive number of units, whichever buffer it reads or writes. -/
theorem exists_units : ∃ n : ℕ, (oRow 0).view.dmaCredit = n ∧ 0 < n := ⟨_, rfl, View.dmaCredit_pos _ h_S1024x512⟩
/-- The units one band's transfer signals. Only that they are positive matters. -/
def N : ℕ := exists_units.choose
theorem N_pos : 0 < N := exists_units.choose_spec.2
theorem units_row (p : Dev nD) : (oRow p).view.dmaCredit = N := exists_units.choose_spec.1
theorem units_col (c : Dev nD) (k : Fin 3) : (xCol c k).view.dmaCredit = N := exists_units.choose_spec.1

/-! ## What the cells hand over -/

/-- The band of columns of its input that device `c`'s transfer `k` reads. -/
def colPts (c : Dev nD) (k : Fin 3) : sProp 𝕄 :=
  (xCol c k).view.loc (c : Thread nD τ) ↦[(xCol c k).view.set]{fullShare} xs c

/-- The band of rows from device `p` of device `d`'s result, at contents `f`. -/
def rowPts (p d : Dev nD) (f : Buf (Elt F) ((oRow p).view.loc (d : Thread nD τ))) : sProp 𝕄 :=
  (oRow p).view.loc (d : Thread nD τ) ↦[(oRow p).view.set]{fullShare} f

/-- Device `c`'s result. -/
def outAt (c : Dev nD) : (cc0_stg1_0 : Ref sig .tc).ty.Contents (Elt F) := gathered xs c

instance colPts_storable (c : Dev nD) (k : Fin 3) : BI.Storable (upEmb : UEmb _ 𝕄) (colPts xs c k) := by unfold colPts; infer_instance
instance rowPts_storable (p d : Dev nD) (f) : BI.Storable (upEmb : UEmb _ 𝕄) (rowPts (F := F) p d f) := by unfold rowPts; infer_instance

/-- Which transfer a kernel semaphore is of, and what it hands over on device `c`: the columns sent by transfer `k`, or
    the rows from the device whose transfer `k` ends at `c`. -/
def handed (c : Dev nD) (j : ℕ) : sProp 𝕄 :=
  if h : j < 3 then colPts xs c ⟨j, h⟩
  else if h : j < 6 then rowPts (rot (Fin.rev ⟨j - 3, by omega⟩) c) c (outAt xs c)
  else iprop(emp)

instance handed_storable (c : Dev nD) (j : ℕ) : BI.Storable (upEmb : UEmb _ 𝕄) (handed xs c j) := by
  unfold handed; (repeat' split) <;> infer_instance

/-- One round: three duties of a unit for a barrier, one duty of a band for a kernel semaphore. -/
def plan : Rounds.Schedule (GSem nD τ sig) (Fin 3) 𝕄 where
  duties g r := if r = 0 ∧ g.1.2 = .tc then (match g.2 with | .reg _ => Finset.univ | .dma _ => {0}) else ∅
  unitless _ := False
  amount g _ _ := match g.2 with | .reg _ => 1 | .dma _ => N
  payload g _ d := match g.2 with
    | .reg _ => iprop(∃ f, rowPts g.1.1 (rot d g.1.1) f)
    | .dma q => handed xs g.1.1 (q.val - 2)
  amount_pos g _ _ _ := by
    rcases g with ⟨t, s | s⟩
    · exact Nat.one_pos
    · exact N_pos

instance plan_storable (g : GSem nD τ sig) (r : ℕ) (d : Fin 3) : BI.Storable (upEmb : UEmb _ 𝕄) ((plan xs).payload g r d) := by
  rcases g with ⟨t, s | s⟩
  · show BI.Storable upEmb iprop(∃ f, rowPts t.1 (rot d t.1) f)
    infer_instance
  · show BI.Storable upEmb (handed xs t.1 (s.val - 2))
    infer_instance

section Rounds

variable (c : Dev nD) (k : Fin 3) (j : Fin 6)

theorem duties_bar : (plan xs).duties (barCell c) 0 = Finset.univ := by dsimp only [plan]; exact if_pos ⟨rfl, rfl⟩
theorem duties_own : (plan xs).duties (ownCell c j) 0 = {0} := by dsimp only [plan]; exact if_pos ⟨rfl, rfl⟩
theorem duties_later (g : GSem nD τ sig) (r : ℕ) (h : 1 ≤ r) : (plan xs).duties g r = ∅ := by dsimp only [plan]; exact if_neg fun h' => by omega
theorem amount_bar (d : Fin 3) : (plan xs).amount (barCell c) 0 d = 1 := rfl
theorem amount_own (d : Fin 3) : (plan xs).amount (ownCell c j) 0 d = N := rfl

theorem expect_bar : (plan xs).expect (barCell c) 0 = 3 := by
  unfold Schedule.expect Schedule.amountOf
  rw [duties_bar, Finset.sum_congr rfl fun d _ => amount_bar xs c d, Finset.sum_const, Finset.card_univ, Fintype.card_fin, smul_eq_mul]
theorem expect_own : (plan xs).expect (ownCell c j) 0 = N := by
  unfold Schedule.expect Schedule.amountOf
  rw [duties_own, Finset.sum_singleton, amount_own]

theorem payload_bar (d : Fin 3) : (plan xs).payload (barCell c) 0 d = iprop(∃ f, rowPts c (rot d c) f) := rfl

theorem payload_send (d : Fin 3) : (plan xs).payload (sendCell c k) 0 d = colPts xs c k := by
  show handed xs c (2 + k.val - 2) = _
  have h : 2 + k.val - 2 = k.val := by omega
  rw [h]; exact dif_pos k.isLt

theorem payload_recv (d : Fin 3) : (plan xs).payload (recvCell c k) 0 d = rowPts (rot k.rev c) c (outAt xs c) := by
  show handed xs c (2 + (3 + k.val) - 2) = _
  have h : 2 + (3 + k.val) - 2 = 3 + k.val := by omega
  have hk : (⟨3 + k.val - 3, by omega⟩ : Fin 3) = k := Fin.ext (by show 3 + k.val - 3 = k.val; omega)
  rw [h]; unfold handed
  rw [dif_neg (by omega), dif_pos (by omega)]
  exact congrArg (fun l : Fin 3 => rowPts (rot l.rev c) c (outAt xs c)) hk

/-- The three units of a barrier bring the three bands to write; -/
theorem rest_bar : bigSep ((plan xs).duties (barCell c) 0 \ ∅) (fun d => (plan xs).payload (barCell c) 0 d)
    = bigSep Finset.univ fun d : Fin 3 => iprop(∃ f, rowPts (F := F) c (rot d c) f) := by
  rw [Finset.sdiff_empty, duties_bar]; exact bigSep_congr fun d _ => payload_bar xs c d
/-- the round of a kernel semaphore what its one duty hands over. -/
theorem rest_own : bigSep ((plan xs).duties (ownCell c j) 0 \ ∅) (fun d => (plan xs).payload (ownCell c j) 0 d)
    = (plan xs).payload (ownCell c j) 0 0 := by
  rw [Finset.sdiff_empty, duties_own, bigSep_singleton]

end Rounds

/-! ## What a device owes -/

/-- The last dues of three, from the `j`-th on. -/
def dues (t : Fin 3 → CellTallies nD τ sig Unit) (j : ℕ) : CellTallies nD τ sig Unit :=
  ∑ k ∈ Finset.univ.filter (fun k : Fin 3 => j ≤ k.val), t k

theorem dues_zero (t : Fin 3 → CellTallies nD τ sig Unit) : dues t 0 = ∑ k, t k := by
  unfold dues; rw [Finset.filter_true_of_mem fun _ _ => Nat.zero_le _]
theorem dues_three (t : Fin 3 → CellTallies nD τ sig Unit) : dues t 3 = 0 := by
  unfold dues; rw [Finset.filter_false_of_mem fun k _ => by omega, Finset.sum_empty]
/-- Paying the next one. -/
theorem dues_pay (t : Fin 3 → CellTallies nD τ sig Unit) (k : Fin 3) : dues t k.val = dues t (k.val + 1) + t k := by
  unfold dues
  have h : (Finset.univ.filter fun l : Fin 3 => k.val ≤ l.val) = insert k (Finset.univ.filter fun l : Fin 3 => k.val + 1 ≤ l.val) := by
    revert k; decide
  rw [h, Finset.sum_insert (by simp), add_comm]

/-- Device `c`'s unit to the barrier of the device its transfer `k` goes to; -/
abbrev barDue (c : Dev nD) (k : Fin 3) : CellTallies nD τ sig Unit := tallyAt (barCell (rot k c)) () 1
/-- the band it sends there. -/
abbrev bandDue (c : Dev nD) (k : Fin 3) : CellTallies nD τ sig Unit := tallyAt (recvCell (rot k c) k) () N

/-- What device `c` owes at launch: three units, three bands. -/
def O₀ (c : Dev nD) : CellTallies nD τ sig Unit := dues (bandDue c) 0 + dues (barDue c) 0

theorem dues_apply (t : Fin 3 → CellTallies nD τ sig Unit) (j : ℕ) (g : GSem nD τ sig) (u : Unit) :
    dues t j g u = ∑ k ∈ Finset.univ.filter (fun k : Fin 3 => j ≤ k.val), t k g u := by
  unfold dues
  rw [Finset.sum_apply, Finsupp.finset_sum_apply]

theorem dues_pos {t : Fin 3 → CellTallies nD τ sig Unit} {j : ℕ} {g : GSem nD τ sig} {u : Unit} (h : 0 < dues t j g u) :
    ∃ k, 0 < t k g u := by
  rw [dues_apply] at h
  obtain ⟨k, -, hk⟩ := Finset.exists_ne_zero_of_sum_ne_zero h.ne'
  exact ⟨k, Nat.pos_of_ne_zero hk⟩

theorem tallyAt_pos {g g' : GSem nD τ sig} {u : Unit} {n : ℕ} (h : 0 < tallyAt g () n g' u) : g' = g := by
  by_contra hn
  rw [tallyAt_apply, if_neg fun h' => hn h'.1] at h
  exact Nat.lt_irrefl 0 h

/-! ## Levels -/

/-- A core's cells carry one index, the others none. -/
def L (g : GSem nD τ sig) : Finset Unit := if g.1.2 = .tc then {()} else ∅
/-- Barriers are below receive semaphores, everything else below both. -/
def lv (g : GSem nD τ sig) (_ : Unit) : ℕ := match g.2 with | .reg _ => 1 | .dma q => if 5 ≤ q.val then 2 else 0

theorem L_of_ne (g : GSem nD τ sig) (h : g.1.2 ≠ .tc) : L g = ∅ := if_neg h
theorem L_tc (c : Dev nD) (s : SemLoc sig) : L ((c : Thread nD τ), s) = {()} := if_pos rfl

theorem lv_bar (c : Dev nD) : lv (barCell c) () = 1 := rfl
theorem lv_recv (c : Dev nD) (k : Fin 3) : lv (recvCell c k) () = 2 := if_pos (show 5 ≤ 2 + (3 + k.val) by omega)
theorem lv_low (c : Dev nD) (q : DmaSem sig) (h : q.val < 5) : lv ((c : Thread nD τ), .dma q) () = 0 := if_neg (by omega)

/-- A device that owes bands only may wait at its barrier; -/
theorem mayWait_bar (c : Dev nD) (j : ℕ) : (levAts L lv : sProp 𝕄) ⊢ MayWait (c : Thread nD τ) (.reg barS) () (dues (bandDue c) j) :=
  MayOwe.of_cut (L := L) (lev := lv) 1 (fun p hp => by rw [Finset.mem_singleton.mp hp, L_tc]; exact Finset.mem_singleton_self _)
    (fun g u h => by obtain ⟨k, hk⟩ := dues_pos h; rw [tallyAt_pos hk, L_tc]; exact Finset.mem_singleton_self _)
    (fun p hp => by rw [Finset.mem_singleton.mp hp]; exact (lv_bar c).le)
    (fun g u h => by obtain ⟨k, hk⟩ := dues_pos h; rw [tallyAt_pos hk, lv_recv]; decide)

/-- one that owes all it does at launch, or nothing, may wait for a copy in or out of its staging buffers. -/
theorem mayWait_stage (c : Dev nD) (q : DmaSem sig) (hq : q.val < 5) (O : CellTallies nD τ sig Unit) (hO : O = O₀ c ∨ O = 0) :
    (levAts L lv : sProp 𝕄) ⊢ MayWait (c : Thread nD τ) (.dma q) () O := by
  rcases hO with rfl | rfl
  · have key : ∀ (g : GSem nD τ sig) (u : Unit), 0 < O₀ c g u → (∃ d k, g = recvCell d k) ∨ ∃ d, g = barCell d := fun g u h => by
      unfold O₀ at h
      rw [Pi.add_apply, Finsupp.add_apply] at h
      rcases Nat.add_pos_iff_pos_or_pos.mp h with h | h
      · obtain ⟨k, hk⟩ := dues_pos h; exact .inl ⟨_, k, tallyAt_pos hk⟩
      · obtain ⟨k, hk⟩ := dues_pos h; exact .inr ⟨_, tallyAt_pos hk⟩
    exact MayOwe.of_cut (L := L) (lev := lv) 0 (fun p hp => by rw [Finset.mem_singleton.mp hp, L_tc]; exact Finset.mem_singleton_self _)
      (fun g u h => by rcases key g u h with ⟨d, k, rfl⟩ | ⟨d, rfl⟩ <;> (rw [L_tc]; exact Finset.mem_singleton_self _))
      (fun p hp => by rw [Finset.mem_singleton.mp hp]; exact (lv_low c q hq).le)
      (fun g u h => by
        rcases key g u h with ⟨d, k, rfl⟩ | ⟨d, rfl⟩
        · rw [lv_recv]; decide
        · rw [lv_bar]; decide)
  · rw [MayWait_zero]; iintro -; iempintro

end Cert.Exchange

end
-- ==== Proof.Steps.lean ====
/-
  The steps of the kernel that touch another device, each stated once for the transfer `k` it belongs to: the unit to a
  barrier, the wait at the own one, the transfer of a band, the wait for a kernel semaphore; and what the two staging
  buffers split into.
-/
module

public import proofs.«01_k».proof.Proof.Schedule

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (xs : Inputs F)

abbrev 𝒱₀ : Variants := Variants.none

/-- A separating conjunction over the three transfers, and over the four bands of a buffer, written out. -/
theorem bigSep_three (Φ : Fin 3 → sProp 𝕄) : bigSep Finset.univ Φ = iprop(Φ 0 ∗ Φ 1 ∗ Φ 2) :=
  bigSep_univ_eq_bigSepL [0, 1, 2] (by decide) (by decide) Φ
theorem bigSep_bands (Φ : Option (Fin 3) → sProp 𝕄) :
    bigSep Finset.univ Φ = iprop(Φ none ∗ Φ (some 0) ∗ Φ (some 1) ∗ Φ (some 2)) :=
  bigSep_univ_eq_bigSepL [none, some 0, some 1, some 2] (by decide) (by decide) Φ

/-! ## The buffers in bands -/

/-- The columns of its input that device `c` keeps. -/
def keptPts (c : Dev nD) : sProp 𝕄 := xM.view.loc (c : Thread nD τ) ↦[colSet c none]{fullShare} xs c

/-- The input is held whole exactly if its four bands of columns are held; -/
theorem input_bands (c : Dev nD) : (((c : Thread nD τ).loc cc0_stg0_0) ↦{fullShare} xs c : sProp 𝕄)
    = iprop(keptPts xs c ∗ colPts xs c 0 ∗ colPts xs c 1 ∗ colPts xs c 2) := by
  have h (k : Fin 3) : (colPts xs c k : sProp 𝕄) = (xM.view.loc (c : Thread nD τ) ↦[colSet c (some k)]{fullShare} xs c) := by
    unfold colPts; rw [xCol_set]
  rw [h, h, h]
  exact (Ring.pointsTo_blocks (ℓ := xM.view.loc (c : Thread nD τ)) (colSet c) (colSet_disjoint c) (colSet_cover c) (xs c)).trans (bigSep_bands _)

/-- a result, at one contents, exactly if its four bands of rows are. -/
theorem result_bands (c : Dev nD) (f : (cc0_stg1_0 : Ref sig .tc).ty.Contents (Elt F)) :
    (((c : Thread nD τ).loc cc0_stg1_0) ↦{fullShare} f : sProp 𝕄)
      = iprop(rowPts c c f ∗ rowPts (rot 0 c) c f ∗ rowPts (rot 1 c) c f ∗ rowPts (rot 2 c) c f) := by
  have h (p : Dev nD) : (rowPts p c f : sProp 𝕄) = (oM.view.loc (c : Thread nD τ) ↦[rowSet p]{fullShare} f) := by
    unfold rowPts; rw [oRow_set]
  have h0 := h (peer none c)
  rw [peer_none] at h0
  rw [h, h, h, h]
  refine (Ring.pointsTo_blocks (ℓ := oM.view.loc (c : Thread nD τ)) (fun o => rowSet (peer o c)) (rowSet_disjoint c) (rowSet_cover c) f).trans
    ((bigSep_bands _).trans ?_)
  rw [peer_none]

/-- The own band with the own columns stored over it is at the contents of the result. -/
theorem own_stored (c : Dev nD) (f : (cc0_stg1_0 : Ref sig .tc).ty.Contents (Elt F)) :
    (oM.view.loc (c : Thread nD τ) ↦[(oRow c).view.set]{fullShare}
        (oM.access (ownRowRect c)).write (Elt F) f (k0_pay1 (xM.view.readAt (Elt F) (ownColRect c).toLoadRect (xs c))) Finset.univ : sProp 𝕄)
      = rowPts c c (outAt xs c) :=
  pointsTo_congr fun i hi => kept xs c f i (oRow_set c ▸ hi)

/-! ## The invariants -/

/-- Every semaphore in play, of every device, keeps its protocol and has reached round `0`. -/
def records (K : Dev nD × Fin 7 → ℕ) : sProp 𝕄 :=
  iprop((bigSep Finset.univ fun x : Dev nD × Fin 7 => cellInv EX (plan xs) (K x) (cell x))
    ∗ bigSep Finset.univ fun x : Dev nD × Fin 7 => reached EX (cell x) 0)

instance records_persistent (K : Dev nD × Fin 7 → ℕ) : BI.Persistent (records xs K) := by unfold records; infer_instance

variable (K : Dev nD × Fin 7 → ℕ)

theorem records_cell (x : Dev nD × Fin 7) :
    records xs K ⊢ iprop(cellInv EX (plan xs) (K x) (cell x) ∗ reached EX (cell x) 0) :=
  BI.sep_mono (bigSep_elim (Finset.mem_univ x)) (bigSep_elim (Finset.mem_univ x))
theorem records_bar (c : Dev nD) :
    records xs K ⊢ iprop(cellInv EX (plan xs) (K (c, 0)) (barCell c) ∗ reached EX (barCell c) 0) := records_cell xs K (c, 0)
theorem records_own (c : Dev nD) (j : Fin 6) :
    records xs K ⊢ iprop(cellInv EX (plan xs) (K (c, j.succ)) (ownCell c j) ∗ reached EX (ownCell c j) 0) :=
  records_cell xs K (c, j.succ)

/-- Device `c` owes `O`. -/
def owing (c : Dev nD) (O : CellTallies nD τ sig Unit) : sProp 𝕄 := iprop(∃ W, owes (c : Thread nD τ) O W)

section Steps

variable (c : Dev nD) (k : Fin 3)

/-- The unit to the barrier of the device `k + 1` places on, with the band of rows that is to come from there. -/
theorem step_signal {n : Dev nD} (hn : n = rot k c) {z : ℤ} (hz : z = (1 : ℕ)) (f : (cc0_stg1_0 : Ref sig .tc).ty.Contents (Elt F))
    (O : CellTallies nD τ sig Unit)
    {α : Type} {Q : α → sProp 𝕄} {kk : PUnit → Prog (TpuEff nD τ sig (Elt F) Λ₀ .tc) α} :
    iprop(records xs K ∗ owing c (O + dues (barDue c) k.val) ∗ dutyTok EX (barCell (rot k c)) 0 k.rev ∗ rowPts (rot k c) c f)
      ⊢ iprop((owing c (O + dues (barDue c) (k.val + 1)) -∗ wp frame (wpE (defs₀ (F := F)) 𝒱₀ (c : Thread nD τ) none) Set.univ (kk ⟨⟩) Q)
          -∗ wp frame (wpE (defs₀ (F := F)) 𝒱₀ (c : Thread nD τ) none) Set.univ (.op (.semSignal (n : Thread nD τ) barS z) kk) Q) := by
  subst hn; subst hz
  unfold owing
  iintro ⟨#HR, ⟨%W, HO⟩, Htok, Hrow⟩ Hk
  ihave HB := (records_bar xs K (rot k c)) $$ HR
  icases HB with ⟨#HI, #Hr⟩
  iapply (Rounds.wp_signal 𝒱₀ EX (plan xs) (c : Thread nD τ) none (dst := (rot k c : Thread nD τ)) (κ := K (rot k c, 0)) (r := 0)
      (d := k.rev) (O₀ := O + dues (barDue c) k.val) (by rw [duties_bar]; exact Finset.mem_univ _) (amount_bar xs (rot k c) k.rev) () (O + dues (barDue c) (k.val + 1))
      (by rw [dues_pay, add_assoc])) $$ [HO Htok Hrow]
  · isplitr; · iexact HI
    isplitl [HO]; · iexact HO
    isplitl [Htok]; · iexact Htok
    isplitl [Hrow]
    · rw [payload_bar, rot_rev_rot]; iexists f; iexact Hrow
    · iexact Hr
  iintro HO
  iapply Hk; iexists W; iexact HO

/-- The wait at the own barrier brings, on each of the three others, the band of rows the transfer there writes. -/
theorem step_barrier {z : ℤ} (hz : z = (3 : ℕ)) (j : ℕ)
    {α : Type} {Q : α → sProp 𝕄} {kk : PUnit → Prog (TpuEff nD τ sig (Elt F) Λ₀ .tc) α} :
    iprop(records xs K ∗ levAts L lv ∗ cred (tallyAt (barCell c) () 3) ∗ owing c (dues (bandDue c) j) ∗ atPos EX (barCell c) 0 ∅ 0)
      ⊢ iprop(((owing c (dues (bandDue c) j) ∗ atPos EX (barCell c) (0 + 1) ∅ 0
              ∗ (∃ f, rowPts c (rot 0 c) f) ∗ (∃ f, rowPts c (rot 1 c) f) ∗ ∃ f, rowPts c (rot 2 c) f)
            -∗ wp frame (wpE (defs₀ (F := F)) 𝒱₀ (c : Thread nD τ) none) Set.univ (kk ⟨⟩) Q)
          -∗ wp frame (wpE (defs₀ (F := F)) 𝒱₀ (c : Thread nD τ) none) Set.univ (.op (.semWait barS z) kk) Q) := by
  subst hz
  unfold owing
  iintro ⟨#HR, #Hlev, Hc, ⟨%W, HO⟩, Hat⟩ Hk
  ihave HB := (records_bar xs K c) $$ HR
  icases HB with ⟨#HI, -⟩
  iapply (Rounds.wp_wait_rest_token 𝒱₀ EX (plan xs) (c : Thread nD τ) none (κ := K (c, 0))
      (wpE_semWait_eq 𝒱₀ (c : Thread nD τ) none Set.univ) (Set.mem_univ _) () (O := dues (bandDue c) j) (W := W) (R := 0) (m := 0) (T := ∅)
      (k' := 3) (by rw [expect_bar])) $$ [Hc HO Hat]
  · isplitr; · iexact HI
    isplitl [Hc]; · iexact Hc
    isplitl [HO]; · iexact HO
    isplitr; · iapply (mayWait_bar c j); iexact Hlev
    iexact Hat
  iintro ⟨HO, Hat, -, Hpay⟩
  ihave Hp := (Entails.of_eq ((rest_bar xs c).trans (bigSep_three _))) $$ Hpay
  iapply Hk
  isplitl [HO]; · iexists _; iexact HO
  isplitl [Hat]; · iexact Hat
  iexact Hp

/-- The transfer of a band of columns to the device `k + 1` places on, over the band of rows there that is from `c`. -/
theorem step_send {n : Dev nD} (hn : n = rot k c) {src dst : Memref sig .tc .vmem S1024x512 .f32} (hs : src = xCol c k) (hd : dst = oRow c)
    {sS sR : SemLoc sig} (hS : sS = osem (sendAt k)) (hR : sR = osem (recvAt k))
    {hsc : dst.view.ref.isScScratch = false} {hsrc : src.view.WordExact} {hdst : dst.view.WordExact}
    {hsem : DmaTarget.Typed .vmem sR (.remote (n : Thread nD τ) dst sS hsc)}
    {α : Type} {Q : α → sProp 𝕄} {kk : PUnit → Prog (TpuEff nD τ sig (Elt F) Λ₀ .tc) α} :
    iprop(records xs K ∗ owing c (dues (bandDue c) k.val) ∗ dutyTok EX (sendCell c k) 0 0 ∗ dutyTok EX (recvCell (rot k c) k) 0 0
        ∗ colPts xs c k ∗ ∃ f, rowPts c (rot k c) f)
      ⊢ iprop(((owing c (dues (bandDue c) (k.val + 1)) ∗ cred (tallyAt (sendCell c k) () N))
            -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma src (.remote (n : Thread nD τ) dst sS hsc) sR hsrc hdst hsem) kk) Q) := by
  subst hn hs hd hS hR
  unfold owing
  iintro ⟨#HR, ⟨%W, HO⟩, HtS, HtR, Hx, ⟨%f, Hrow⟩⟩ Hk
  ihave HS := (records_own xs K c (sendAt k)) $$ HR
  icases HS with ⟨#HIS, #HrS⟩
  ihave HV := (records_own xs K (rot k c) (recvAt k)) $$ HR
  icases HV with ⟨#HIV, #HrV⟩
  unfold colPts rowPts
  iapply (Rounds.wp_send_pointsTo 𝒱₀ EX (plan xs) (c : Thread nD τ) none (κ₁ := K (c, (sendAt k).succ)) (κ₂ := K (rot k c, (recvAt k).succ))
    (sS := osem (sendAt k)) (sem := osem (recvAt k)) (r₁ := 0) (r₂ := 0) (d₁ := 0) (d₂ := 0) (fs := xs c) (fd := f) (q := fullShare)
    (by rw [duties_own]; exact Finset.mem_singleton_self _) (by rw [duties_own]; exact Finset.mem_singleton_self _)
    () () N (units_row c) (amount_own xs c (sendAt k) 0) (amount_own xs (rot k c) (recvAt k) 0) (dues (bandDue c) (k.val + 1))
    (dues_pay (bandDue c) k) (W := W)
    (by rw [payload_send]; unfold colPts; exact BI.Entails.refl _)
    (by
      rw [payload_recv, rot_rev_rot]; unfold rowPts
      exact Entails.of_eq (pointsTo_congr fun i hi => landed xs c k f i hi))) $$ [HO HtS HtR Hx Hrow]
  · isplitr; · iexact HIS
    isplitr; · iexact HIV
    isplitl [Hx]; · iexact Hx
    isplitl [Hrow]; · iexact Hrow
    isplitl [HO]; · iexact HO
    isplitl [HtS]; · iexact HtS
    isplitr; · iexact HrS
    isplitl [HtR]; · iexact HtR
    iexact HrV
  iintro ⟨Hc, HO⟩
  iapply Hk
  isplitl [HO]; · iexists W; iexact HO
  iexact Hc

/-- The wait for a kernel semaphore, with nothing owed, brings what its round hands over. -/
theorem step_wait (j : Fin 6) {q : DmaSem sig} (hq : (SemLoc.dma q : SemLoc sig) = osem j)
    {src dst : Memref sig .tc .vmem S1024x512 .f32} {hsrc : src.view.WordExact} {hdst : dst.view.WordExact} (hN : dst.view.dmaCredit = N)
    {α : Type} {Q : α → sProp 𝕄} {kk : PUnit → Prog (TpuEff nD τ sig (Elt F) Λ₀ .tc) α} :
    iprop(records xs K ∗ cred (tallyAt (ownCell c j) () N) ∗ owing c 0 ∗ atPos EX (ownCell c j) 0 ∅ 0)
      ⊢ iprop(((owing c 0 ∗ atPos EX (ownCell c j) (0 + 1) ∅ 0 ∗ (plan xs).payload (ownCell c j) 0 0)
            -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 q src dst hsrc hdst) kk) Q) := by
  obtain rfl : q = ⟨2 + j.val, by show _ < 8; omega⟩ := SemLoc.dma.inj hq
  unfold owing
  iintro ⟨#HR, Hc, ⟨%W, HO⟩, Hat⟩ Hk
  ihave HB := (records_own xs K c j) $$ HR
  icases HB with ⟨#HI, -⟩
  iapply (Rounds.wp_wait_rest_token 𝒱₀ EX (plan xs) (c : Thread nD τ) none (κ := K (c, j.succ))
      (wpE_waitDma2_eq 𝒱₀ (c : Thread nD τ) none Set.univ) (Set.mem_univ _) () (O := 0) (W := W) (R := 0) (m := 0) (T := ∅)
      (by rw [Nat.zero_add, hN, expect_own xs c j])) $$ [Hc HO Hat]
  · isplitr; · iexact HI
    isplitl [Hc]; · rw [hN]; iexact Hc
    isplitl [HO]; · iexact HO
    isplitr; · rw [MayWait_zero]; iempintro
    iexact Hat
  iintro ⟨HO, Hat, -, Hpay⟩
  iapply Hk
  isplitl [HO]; · iexists _; iexact HO
  isplitl [Hat]; · iexact Hat
  iapply (Entails.of_eq (rest_own xs c j)); iexact Hpay

end Steps

/-- A semaphore whose round is over closes, with its counter at zero. -/
theorem close_cell (x : Dev nD × Fin 7) :
    iprop(records xs K ∗ atPos EX (cell x) (0 + 1) ∅ 0) ⊢ (|={Set.univ}=> semVal (cell x) 0 : sProp 𝕄) := by
  iintro ⟨#HR, Hat⟩
  ihave HB := (records_cell xs K x) $$ HR
  icases HB with ⟨#HI, -⟩
  iapply (Rounds.cell_close EX (plan xs) (Set.mem_univ (K x)) (fun h => h) (R := 0 + 1) (duties_later xs (cell x)))
  isplitr; · iexact HI
  iexact Hat

end Cert.Exchange

end
-- ==== Proof.Body.lean ====
/-
  The kernel's body on one device, run from what the launch gives it to the gathered result.
-/
module

public import proofs.«01_k».proof.Proof.Steps

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (xs : Inputs F)

/-! ## What a body starts from and ends at -/

/-- Device `c`'s place in the protocol of each of its seven semaphores. -/
def places (c : Dev nD) : sProp 𝕄 := bigSep Finset.univ fun i : Fin 7 => atPos EX (cell (c, i)) 0 ∅ 0

/-- The duties device `c` pays for transfer `k`: a unit to the barrier over there, the columns back to itself, the rows
    over there. -/
def payToks (c : Dev nD) (k : Fin 3) : sProp 𝕄 :=
  iprop(dutyTok EX (barCell (rot k c)) 0 k.rev ∗ dutyTok EX (sendCell c k) 0 0 ∗ dutyTok EX (recvCell (rot k c) k) 0 0)

/-- Device `c`'s part of the protocol's state. -/
def ghost (K : Dev nD × Fin 7 → ℕ) (c : Dev nD) : sProp 𝕄 :=
  iprop(records xs K ∗ places c ∗ bigSep Finset.univ (payToks c))

/-- What device `c` will be paid: three units at its barrier, three bands. -/
def credits (c : Dev nD) : sProp 𝕄 :=
  iprop(cred (tallyAt (barCell c) () 3) ∗ bigSep Finset.univ fun k : Fin 3 => cred (tallyAt (recvCell c k) () N))

/-- The counters of device `c`'s seven semaphores, at zero. -/
def zeros (c : Dev nD) : sProp 𝕄 := bigSep Finset.univ fun i : Fin 7 => semVal (cell (c, i)) 0

def bodyFrom (K : Dev nD × Fin 7 → ℕ) (c : Dev nD) (f : (cc0_stg1_0 : Ref sig .tc).ty.Contents (Elt F)) : sProp 𝕄 :=
  iprop(ghost xs K c ∗ credits c ∗ levAts L lv ∗ owing c (O₀ c)
    ∗ (((c : Thread nD τ).loc cc0_stg0_0) ↦{fullShare} xs c) ∗ (((c : Thread nD τ).loc cc0_stg1_0) ↦{fullShare} f))

def bodyTo (c : Dev nD) : sProp 𝕄 :=
  iprop(zeros c ∗ owing c 0
    ∗ (((c : Thread nD τ).loc cc0_stg0_0) ↦{fullShare} xs c) ∗ (((c : Thread nD τ).loc cc0_stg1_0) ↦{fullShare} outAt xs c))

theorem bigSep_seven (Φ : Fin 7 → sProp 𝕄) :
    bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ

/-! ## The run -/

variable (K : Dev nD × Fin 7 → ℕ)

set_option maxHeartbeats 1600000 in
/-- The body takes a device from its start to the gathered result, with its semaphores at zero and nothing owed. -/
theorem body_run (c : Dev nD) (f : (cc0_stg1_0 : Ref sig .tc).ty.Contents (Elt F)) (Kt : PUnit → sProp 𝕄) :
    iprop(bodyFrom xs K c f ∗ (bodyTo xs c -∗ Kt ⟨⟩))
      ⊢ wp frame (wpE (defs₀ (F := F)) 𝒱₀ (c : Thread nD τ) none) Set.univ
          (cc0_body (Memref.whole cc0_stg0_0) (Memref.isWhole_whole _) (Memref.whole cc0_stg1_0) (Memref.isWhole_whole _)
            cc0_scratch0 cc0_scratch1) Kt := by
  simp only [cc0_body_eq_skeleton]; unfold cc0_body_skel
  simp only [k0_part1_eq_skeleton, k0_part2_eq_skeleton, k0_part3_eq_skeleton, k0_part4_eq_skeleton, k0_part5_eq_skeleton]
  unfold k0_part1_skel k0_part2_skel k0_part3_skel k0_part4_skel k0_part5_skel
  simp only [semSignalWord, semWaitWord, Prog.lift, Prog.bind_op, Prog.bind_ret, Prog.pure_eq_ret, Prog.bind_assoc, wp_deviceId]
  unfold bodyFrom ghost credits places
  rw [bigSep_three, bigSep_three, bigSep_seven]
  unfold payToks O₀
  iintro ⟨⟨⟨#HR, ⟨HaB, HaS0, HaS1, HaS2, HaV0, HaV1, HaV2⟩, ⟨HtB0, HtS0, HtV0⟩, ⟨HtB1, HtS1, HtV1⟩, HtB2, HtS2, HtV2⟩,
    ⟨HcB, HcV0, HcV1, HcV2⟩, #Hlev, HO, Hx, Hout⟩, Hk⟩
  -- the three bands to come from the others, each handed over with a unit to its sender's barrier
  ihave Hb := (Entails.of_eq (result_bands c f)) $$ Hout
  icases Hb with ⟨Hown, Hr0, Hr1, Hr2⟩
  iapply (step_signal xs K c 0 (signal0_eq c) (by decide) f (dues (bandDue c) 0)) $$ [HO HtB0 Hr0]
  · isplitr; · iexact HR
    isplitl [HO]; · iexact HO
    isplitl [HtB0]; · iexact HtB0
    iexact Hr0
  iintro HO
  iapply (step_signal xs K c 1 (signal1_eq c) (by decide) f (dues (bandDue c) 0)) $$ [HO HtB1 Hr1]
  · isplitr; · iexact HR
    isplitl [HO]; · iexact HO
    isplitl [HtB1]; · iexact HtB1
    iexact Hr1
  iintro HO
  iapply (step_signal xs K c 2 (signal2_eq c) (by decide) f (dues (bandDue c) 0)) $$ [HO HtB2 Hr2]
  · isplitr; · iexact HR
    isplitl [HO]; · iexact HO
    isplitl [HtB2]; · iexact HtB2
    iexact Hr2
  iintro HO
  -- the barrier
  ihave HO := (Entails.of_eq (show owing (F := F) c (dues (bandDue c) 0 + dues (barDue c) ((2 : Fin 3).val + 1)) = owing c (dues (bandDue c) 0) by
    rw [show (2 : Fin 3).val + 1 = 3 from rfl, dues_three, add_zero])) $$ HO
  iapply (step_barrier xs K c (by decide) 0) $$ [HO HcB HaB]
  · isplitr; · iexact HR
    isplitr; · iexact Hlev
    isplitl [HcB]; · iexact HcB
    isplitl [HO]; · iexact HO
    iexact HaB
  iintro ⟨HO, HaB, Hw0, Hw1, Hw2⟩
  -- the own columns into the own rows
  iapply (wp_load 𝒱₀ (c : Thread nD τ) none Set.univ (m := xM) (Finset.subset_univ _)) $$ Hx; iintro Hx
  ihave Hown := (Entails.of_eq (show rowPts (F := F) c c f = (oM.view.loc (c : Thread nD τ) ↦[(oRow c).view.set]{fullShare} f) from rfl)) $$ Hown
  have hrows : (oM.access (ownRowRect c)).set ⊆ (oRow c).view.set := by rw [ownRowRect_eq]
  iapply (wp_load_rect 𝒱₀ (c : Thread nD τ) none Set.univ (m := oM) (r := ownRowRect c) hrows) $$ Hown; iintro Hown
  iapply (wp_store 𝒱₀ (c : Thread nD τ) none Set.univ (m := oM) (r := ownRowRect c) (Mk := Finset.univ) hrows) $$ Hown; iintro Hown
  ihave Hown := (Entails.of_eq (own_stored xs c f)) $$ Hown
  -- the three transfers
  ihave Hb := (Entails.of_eq (input_bands xs c)) $$ Hx
  icases Hb with ⟨Hkept, Hx0, Hx1, Hx2⟩
  iapply (step_send xs K c 0 (target0_eq c) rfl rfl rfl rfl) $$ [HO HtS0 HtV0 Hx0 Hw0]
  · isplitr; · iexact HR
    isplitl [HO]; · iexact HO
    isplitl [HtS0]; · iexact HtS0
    isplitl [HtV0]; · iexact HtV0
    isplitl [Hx0] <;> iassumption
  iintro ⟨HO, HcS0⟩
  iapply (step_send xs K c 1 (target1_eq c) rfl rfl rfl rfl) $$ [HO HtS1 HtV1 Hx1 Hw1]
  · isplitr; · iexact HR
    isplitl [HO]; · iexact HO
    isplitl [HtS1]; · iexact HtS1
    isplitl [HtV1]; · iexact HtV1
    isplitl [Hx1] <;> iassumption
  iintro ⟨HO, HcS1⟩
  iapply (step_send xs K c 2 (target2_eq c) rfl rfl rfl rfl) $$ [HO HtS2 HtV2 Hx2 Hw2]
  · isplitr; · iexact HR
    isplitl [HO]; · iexact HO
    isplitl [HtS2]; · iexact HtS2
    isplitl [HtV2]; · iexact HtV2
    isplitl [Hx2] <;> iassumption
  iintro ⟨HO, HcS2⟩
  -- the six waits: each brings a band of columns back, or a band of rows landed
  ihave HO := (Entails.of_eq (show owing (F := F) c (dues (bandDue c) ((2 : Fin 3).val + 1)) = owing c 0 by
    rw [show (2 : Fin 3).val + 1 = 3 from rfl, dues_three])) $$ HO
  iapply (step_wait xs K c (sendAt 0) rfl (units_col c 0)) $$ [HO HcS0 HaS0]
  · isplitr; · iexact HR
    isplitl [HcS0]; · iexact HcS0
    isplitl [HO]; · iexact HO
    iexact HaS0
  iintro ⟨HO, HaS0, Hx0⟩
  ihave Hx0 := (Entails.of_eq (payload_send xs c 0 0)) $$ Hx0
  iapply (step_wait xs K c (recvAt 0) rfl (units_row c)) $$ [HO HcV0 HaV0]
  · isplitr; · iexact HR
    isplitl [HcV0]; · iexact HcV0
    isplitl [HO]; · iexact HO
    iexact HaV0
  iintro ⟨HO, HaV0, Hr2⟩
  ihave Hr2 := (Entails.of_eq (payload_recv xs c 0 0)) $$ Hr2
  iapply (step_wait xs K c (sendAt 1) rfl (units_col c 1)) $$ [HO HcS1 HaS1]
  · isplitr; · iexact HR
    isplitl [HcS1]; · iexact HcS1
    isplitl [HO]; · iexact HO
    iexact HaS1
  iintro ⟨HO, HaS1, Hx1⟩
  ihave Hx1 := (Entails.of_eq (payload_send xs c 1 0)) $$ Hx1
  iapply (step_wait xs K c (recvAt 1) rfl (units_row c)) $$ [HO HcV1 HaV1]
  · isplitr; · iexact HR
    isplitl [HcV1]; · iexact HcV1
    isplitl [HO]; · iexact HO
    iexact HaV1
  iintro ⟨HO, HaV1, Hr1⟩
  ihave Hr1 := (Entails.of_eq (payload_recv xs c 1 0)) $$ Hr1
  iapply (step_wait xs K c (sendAt 2) rfl (units_col c 2)) $$ [HO HcS2 HaS2]
  · isplitr; · iexact HR
    isplitl [HcS2]; · iexact HcS2
    isplitl [HO]; · iexact HO
    iexact HaS2
  iintro ⟨HO, HaS2, Hx2⟩
  ihave Hx2 := (Entails.of_eq (payload_send xs c 2 0)) $$ Hx2
  iapply (step_wait xs K c (recvAt 2) rfl (units_row c)) $$ [HO HcV2 HaV2]
  · isplitr; · iexact HR
    isplitl [HcV2]; · iexact HcV2
    isplitl [HO]; · iexact HO
    iexact HaV2
  iintro ⟨HO, HaV2, Hr0⟩
  ihave Hr0 := (Entails.of_eq (payload_recv xs c 2 0)) $$ Hr0
  -- both buffers whole again
  ihave Hx := (Entails.of_eq (input_bands xs c).symm) $$ [Hkept Hx0 Hx1 Hx2]
  · isplitl [Hkept]; · iexact Hkept
    isplitl [Hx0]; · iexact Hx0
    isplitl [Hx1] <;> iassumption
  ihave Hout := (Entails.of_eq (result_bands c (outAt xs c)).symm) $$ [Hown Hr0 Hr1 Hr2]
  · isplitl [Hown]; · iexact Hown
    isplitl [Hr0]; · iexact Hr0
    isplitl [Hr1]; · iexact Hr1
    iexact Hr2
  -- the seven semaphores at zero
  imod (close_cell xs K (c, 0)) $$ [HaB] with HaB
  · isplitr; · iexact HR
    iexact HaB
  imod (close_cell xs K (c, 1)) $$ [HaS0] with HaS0
  · isplitr; · iexact HR
    iexact HaS0
  imod (close_cell xs K (c, 2)) $$ [HaS1] with HaS1
  · isplitr; · iexact HR
    iexact HaS1
  imod (close_cell xs K (c, 3)) $$ [HaS2] with HaS2
  · isplitr; · iexact HR
    iexact HaS2
  imod (close_cell xs K (c, 4)) $$ [HaV0] with HaV0
  · isplitr; · iexact HR
    iexact HaV0
  imod (close_cell xs K (c, 5)) $$ [HaV1] with HaV1
  · isplitr; · iexact HR
    iexact HaV1
  imod (close_cell xs K (c, 6)) $$ [HaV2] with HaV2
  · isplitr; · iexact HR
    iexact HaV2
  rw [wp_ret]; imodintro
  iapply Hk
  unfold bodyTo zeros
  rw [bigSep_seven]
  isplitl [HaB HaS0 HaS1 HaS2 HaV0 HaV1 HaV2]
  · isplitl [HaB]; · iexact HaB
    isplitl [HaS0]; · iexact HaS0
    isplitl [HaS1]; · iexact HaS1
    isplitl [HaS2]; · iexact HaS2
    isplitl [HaV0]; · iexact HaV0
    isplitl [HaV1]; · iexact HaV1
    iexact HaV2
  isplitl [HO]; · iexact HO
  isplitl [Hx] <;> iassumption

end Cert.Exchange

end
-- ==== Proof.Deal.lean ====
/-
  What the launch deals out: the protocol's state for every semaphore, and the tokens of its duties. A semaphore's
  tokens are made at its own device and then go to the device that pays the duty: the three of a barrier to the three
  others of the group, the one of a receive semaphore to the sender. And the credit each device starts with is what the
  others owe it.
-/
module

public import proofs.«01_k».proof.Proof.Body

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (xs : Inputs F)

/-! ## Cells and tokens -/

/-- The protocol's semaphores: seven on every device. -/
def cellSet : Finset (GSem nD τ sig) := Finset.univ.map ⟨cell, cell_injective⟩

/-- The duties at device `c`'s own semaphores that go with its transfer `k`: `k`'s at its barrier, the send one, the
    receive one. -/
def tokOf (x : (Dev nD × Fin 3) × Fin 3) : GSem nD τ sig × ℕ × Fin 3 :=
  match x.2 with
  | 0 => (barCell x.1.1, 0, x.1.2)
  | 1 => (sendCell x.1.1 x.1.2, 0, 0)
  | 2 => (recvCell x.1.1 x.1.2, 0, 0)

theorem sendAt_ne_recvAt (k l : Fin 3) : sendAt k ≠ recvAt l := fun h => by
  have := congrArg Fin.val h; simp only at this; omega

theorem sendAt_eq_iff {k l : Fin 3} : sendAt k = sendAt l ↔ k = l :=
  ⟨fun h => Fin.ext (show k.val = l.val from congrArg (fun j : Fin 6 => j.val) h), fun h => h ▸ rfl⟩

theorem tokOf_injective : Function.Injective tokOf := by
  rintro ⟨⟨c, k⟩, j⟩ ⟨⟨d, l⟩, i⟩ h
  have hg := congrArg Prod.fst h
  have ht := congrArg (fun x : GSem nD τ sig × ℕ × Fin 3 => x.2.2) h
  match j, i, h, hg, ht with
  | 0, 0, _, hg, ht => rw [show c = d from barCell_eq_iff.mp hg, show k = l from ht]
  | 0, 1, _, hg, _ => exact absurd hg (barCell_ne_ownCell _ _ _)
  | 0, 2, _, hg, _ => exact absurd hg (barCell_ne_ownCell _ _ _)
  | 1, 0, _, hg, _ => exact absurd hg.symm (barCell_ne_ownCell _ _ _)
  | 2, 0, _, hg, _ => exact absurd hg.symm (barCell_ne_ownCell _ _ _)
  | 1, 1, _, hg, _ => rw [show c = d from (ownCell_eq_iff.mp hg).1, show k = l from sendAt_eq_iff.mp (ownCell_eq_iff.mp hg).2]
  | 1, 2, _, hg, _ => exact absurd (ownCell_eq_iff.mp hg).2 (sendAt_ne_recvAt _ _)
  | 2, 1, _, hg, _ => exact absurd (ownCell_eq_iff.mp hg).2.symm (sendAt_ne_recvAt _ _)
  | 2, 2, _, hg, _ => rw [show c = d from (ownCell_eq_iff.mp hg).1, show k = l from recvAt_eq_iff.mp (ownCell_eq_iff.mp hg).2]

def tokSet : Finset (GSem nD τ sig × ℕ × Fin 3) := Finset.univ.map ⟨tokOf, tokOf_injective⟩

/-- Those tokens, where they are made. -/
def madeToks (x : Dev nD × Fin 3) : sProp 𝕄 :=
  iprop(dutyTok EX (barCell x.1) 0 x.2 ∗ dutyTok EX (sendCell x.1 x.2) 0 0 ∗ dutyTok EX (recvCell x.1 x.2) 0 0)

/-- Made at the semaphores' devices, the tokens are those the devices pay with. -/
theorem toks_dealt : (bigSep Finset.univ fun x : Dev nD × Fin 3 => (madeToks x : sProp 𝕄))
    = bigSep Finset.univ fun c : Dev nD => bigSep Finset.univ (payToks c) := by
  rw [← bigSep_univ_prod (fun x : Dev nD × Fin 3 => (payToks x.1 x.2 : sProp 𝕄))]
  unfold madeToks payToks
  rw [bigSep_sep', bigSep_sep', bigSep_sep', bigSep_sep',
    bigSep_univ_equiv mirror (fun x : Dev nD × Fin 3 => (dutyTok EX (barCell x.1) 0 x.2 : sProp 𝕄)),
    bigSep_univ_equiv along (fun x : Dev nD × Fin 3 => (dutyTok EX (recvCell x.1 x.2) 0 0 : sProp 𝕄))]
  rfl

/-! ## The protocol's state, made and dealt -/

/-- A device's share as made: its semaphores' states and places, the tokens of their duties. -/
def made (c : Dev nD) : sProp 𝕄 :=
  iprop((bigSep Finset.univ fun i : Fin 7 => roundState EX (plan xs) (cell (c, i)) 0)
    ∗ (bigSep Finset.univ fun i : Fin 7 => reached EX (cell (c, i)) 0)
    ∗ places c ∗ bigSep Finset.univ fun k : Fin 3 => madeToks (c, k))

theorem bigSep_cellSet (Φ : GSem nD τ sig → sProp 𝕄) :
    bigSep cellSet Φ = bigSep Finset.univ fun c : Dev nD => bigSep Finset.univ fun i : Fin 7 => Φ (cell (c, i)) := by
  unfold cellSet; rw [bigSep_map, bigSep_univ_prod]; rfl

theorem bigSep_tokSet : bigSep tokSet (fun x => (dutyTok EX x.1 x.2.1 x.2.2 : sProp 𝕄))
    = bigSep Finset.univ fun c : Dev nD => bigSep Finset.univ fun k : Fin 3 => madeToks (c, k) := by
  unfold tokSet
  rw [bigSep_map, bigSep_univ_prod, bigSep_univ_prod]
  exact bigSep_congr fun c _ => bigSep_congr fun k _ => bigSep_three _

theorem make : BI.own (EX (initOf cellSet tokSet)) ⊢ (|==> bigSep Finset.univ (made xs) : sProp 𝕄) := by
  iintro H
  imod (Rounds.fund EX (plan xs) cellSet tokSet) $$ H with ⟨Hst, Hr, Hat, Htok⟩
  imodintro
  unfold made places
  rw [bigSep_sep', bigSep_sep', bigSep_sep', ← bigSep_tokSet,
    ← bigSep_cellSet fun g => roundState EX (plan xs) g 0, ← bigSep_cellSet fun g => reached EX g 0,
    ← bigSep_cellSet fun g => atPos EX g 0 ∅ 0]
  isplitl [Hst]; · iexact Hst
  isplitl [Hr]; · iexact Hr
  isplitl [Hat]; · iexact Hat
  iexact Htok

/-- With its counters at zero a device's semaphores are put under the protocol. -/
theorem put (c : Dev nD) :
    iprop(zeros c ∗ made xs c)
      ⊢ |={Set.univ}=> iprop((bigSep Finset.univ fun i : Fin 7 => iprop(∃ κ : ℕ, cellInv EX (plan xs) κ (cell (c, i))))
          ∗ (bigSep Finset.univ fun i : Fin 7 => reached EX (cell (c, i)) 0)
          ∗ places c ∗ bigSep Finset.univ fun k : Fin 3 => madeToks (c, k)) := by
  have h : iprop(zeros c ∗ bigSep Finset.univ fun i : Fin 7 => roundState EX (plan xs) (cell (c, i)) 0)
      ⊢ (|={Set.univ}=> bigSep Finset.univ fun i : Fin 7 => iprop(∃ κ : ℕ, cellInv EX (plan xs) κ (cell (c, i))) : sProp 𝕄) := by
    unfold zeros
    rw [← bigSep_sep']
    exact (bigSep_mono fun i _ => (Rounds.body_intro EX (plan xs) (cell (c, i))).trans inv_alloc).trans (bigSep_fupd _ _)
  unfold made
  iintro ⟨Hz, Hst, Hrest⟩
  imod h $$ [Hz Hst] with HI
  · isplitl [Hz] <;> iassumption
  imodintro
  isplitl [HI] <;> iassumption

/-- The records are everyone's, so everyone's part of the state is at hand once every semaphore is under the protocol. -/
theorem deal :
    (bigSep Finset.univ fun c : Dev nD => iprop((bigSep Finset.univ fun i : Fin 7 => iprop(∃ κ : ℕ, cellInv EX (plan xs) κ (cell (c, i))))
          ∗ (bigSep Finset.univ fun i : Fin 7 => reached EX (cell (c, i)) 0)
          ∗ places c ∗ bigSep Finset.univ fun k : Fin 3 => madeToks (c, k)) : sProp 𝕄)
      ⊢ bigSep Finset.univ fun c : Dev nD => iprop(∃ K, ghost xs K c) := by
  rw [bigSep_sep', bigSep_sep', bigSep_sep',
    ← bigSep_univ_prod (fun x : Dev nD × Fin 7 => iprop(∃ κ : ℕ, cellInv EX (plan xs) κ (cell x))),
    ← bigSep_univ_prod (fun x : Dev nD × Fin 7 => (reached EX (cell x) 0 : sProp 𝕄)),
    ← bigSep_univ_prod (fun x : Dev nD × Fin 3 => (madeToks x : sProp 𝕄)), toks_dealt]
  iintro ⟨HI, #Hr, Hat, Htok⟩
  ihave HK := (BI.bigSep_exists_pi Finset.univ (fun (x : Dev nD × Fin 7) (κ : ℕ) => (cellInv EX (plan xs) κ (cell x) : sProp 𝕄))) $$ HI
  icases HK with ⟨%K, #HI⟩
  have h : iprop(records xs K ∗ bigSep Finset.univ fun c : Dev nD => iprop(places c ∗ bigSep Finset.univ (payToks c)))
      ⊢ (bigSep Finset.univ fun c : Dev nD => iprop(∃ K, ghost xs K c) : sProp 𝕄) := by
    refine (sep_mono_left (BI.bigSep_of_persistent (Finset.univ : Finset (Dev nD)) (records xs K))).trans ?_
    rw [← bigSep_sep']
    refine bigSep_mono fun c _ => show (iprop(records xs K ∗ places c ∗ bigSep Finset.univ (payToks c)) : sProp 𝕄) ⊢ iprop(∃ K, ghost xs K c) from ?_
    iintro H
    iexists K
    unfold ghost
    iexact H
  iapply h
  rw [bigSep_sep']
  isplitr
  · unfold records
    isplitl
    · iexact HI
    · iexact Hr
  isplitl [Hat] <;> iassumption

/-! ## The credit -/

theorem owed_apply (d : Dev nD) (g : GSem nD τ sig) : O₀ d g () = (∑ k, bandDue d k g ()) + ∑ k, barDue d k g () := by
  unfold O₀
  rw [Pi.add_apply, Finsupp.add_apply, dues_zero, dues_zero, Finset.sum_apply, Finset.sum_apply, Finsupp.finset_sum_apply,
    Finsupp.finset_sum_apply]

/-- Counting over the devices, those whose transfer `k` reaches `c` are one. -/
theorem sum_reaching (k : Fin 3) (c : Dev nD) (n : ℕ) : (∑ d : Dev nD, if rot k d = c then n else 0) = n := by
  rw [Finset.sum_congr rfl fun d _ => if_congr (rot_eq_iff (k := k) (a := d) (b := c)) rfl rfl,
    Finset.sum_ite_eq' Finset.univ _ fun _ => n, if_pos (Finset.mem_univ _)]

/-- All devices together owe a barrier three units, -/
theorem owed_bar (c : Dev nD) : ∑ d : Dev nD, O₀ d (barCell c) () = 3 := by
  have h (d : Dev nD) : O₀ d (barCell c) () = ∑ k : Fin 3, if rot k d = c then 1 else 0 := by
    rw [owed_apply, Finset.sum_eq_zero fun k _ => ?_, Nat.zero_add]
    · refine Finset.sum_congr rfl fun k _ => ?_
      rw [tallyAt_apply]
      exact if_congr ⟨fun h => (barCell_eq_iff.mp h.1).symm, fun h => ⟨barCell_eq_iff.mpr h.symm, rfl⟩⟩ rfl rfl
    · rw [tallyAt_apply, if_neg fun h => barCell_ne_ownCell _ _ _ h.1]
  rw [Finset.sum_congr rfl fun d _ => h d, Finset.sum_comm, Finset.sum_congr rfl fun k _ => sum_reaching k c 1]
  rfl

/-- and a receive semaphore the units of one band. -/
theorem owed_recv (c : Dev nD) (k : Fin 3) : ∑ d : Dev nD, O₀ d (recvCell c k) () = N := by
  have h (d : Dev nD) : O₀ d (recvCell c k) () = ∑ l : Fin 3, if l = k then (if rot l d = c then N else 0) else 0 := by
    rw [owed_apply, Finset.sum_eq_zero (f := fun l => barDue d l (recvCell c k) ()) fun l _ => ?_, Nat.add_zero]
    · refine Finset.sum_congr rfl fun l _ => ?_
      rw [tallyAt_apply, ← ite_and]
      exact if_congr ⟨fun h => ⟨(recvAt_eq_iff.mp (ownCell_eq_iff.mp h.1).2).symm, (ownCell_eq_iff.mp h.1).1.symm⟩,
        fun h => ⟨by rw [← h.2, h.1], rfl⟩⟩ rfl rfl
    · rw [tallyAt_apply, if_neg fun h => barCell_ne_ownCell _ _ _ h.1.symm]
  rw [Finset.sum_congr rfl fun d _ => h d, Finset.sum_comm,
    Finset.sum_eq_single k (fun l _ hl => Finset.sum_eq_zero fun d _ => if_neg hl) (fun h => absurd (Finset.mem_univ _) h)]
  simp only [if_true]
  exact sum_reaching k c N

/-- A semaphore's credit at launch is what the devices owe it. -/
theorem launch_at (g : GSem nD τ sig) (n : ℕ) (h : ∑ d : Dev nD, O₀ d g () = n) :
    tallyOn g (launchCredit (Pipeline.owing O₀) 0 g) = (tallyAt g () n : CellTallies nD τ sig Unit) := by
  unfold tallyAt; refine congrArg _ (Finsupp.ext fun u => ?_); cases u
  rw [Pipeline.launchCredit_owing, h, Finsupp.single_eq_same]

/-- So a device starts with the credit its body needs. -/
theorem credits_intro (c : Dev nD) : (Pipeline.launchCred O₀ c : sProp 𝕄) ⊢ credits c := by
  unfold Pipeline.launchCred credits
  rw [bigSep_univ_at _ (SemLoc.reg barS), launch_at (barCell c) 3 (owed_bar c)]
  refine sep_mono_right ?_
  have hinj : Function.Injective fun k : Fin 3 => osem (recvAt k) := fun k l h => recvAt_eq_iff.mp (osem_injective h)
  have hsub : Finset.univ.map ⟨_, hinj⟩ ⊆ Finset.univ.erase (SemLoc.reg barS : SemLoc sig) := fun s hs => by
    obtain ⟨k, -, rfl⟩ := Finset.mem_map.mp hs
    exact Finset.mem_erase.mpr ⟨(fun h => by cases h), Finset.mem_univ _⟩
  refine (bigSep_subset hsub).trans ?_
  rw [bigSep_map]
  exact bigSep_mono fun k _ => Entails.of_eq (congrArg cred (launch_at (recvCell c k) N (owed_recv c k)))

end Cert.Exchange

end
-- ==== Proof.Launch.lean ====
/-
  The program run whole, on all devices at once: the region's proof data, the body's run as the region's obligation, and
  the launch.
-/
module

public import proofs.«01_k».proof.Proof.Deal
public import proofs.«01_k».proof.Proof.Gen.KernelIdeal
public import proofs.«01_k».proof.Proof.Gen.KernelIdeal.Launch
public import Idealize.ShloMosaic.Lib.Pipeline.Launch
public import Idealize.ShloMosaic.Lib.Pipeline.Kit
public import Idealize.ShloMosaic.Lib.Pipeline.CollectiveSegs
public import Idealize.ShloMosaic.Lib.Quiescent
public import Idealize.ShloMosaic.Lib.Tactic

@[expose] public section

noncomputable section

namespace Cert.Exchange

open Cert.KernelIdeal Cert.KernelIdeal.Gen

open Idealize.ShloMosaic
open Idealize.ShloMosaic.TcCoe
open Idealize.ShloMosaic.Pipeline (Dat BodyObligation)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## The region's data -/

/-- The state at launch: every counter at zero. -/
abbrev s₀ : MemSt nD τ sig (Elt F) := ⟨m, fun _ => 0, ρ⟩

/-- The blocks the devices are given. -/
def inputs : Inputs F := fun c =>
  (win0_0.blk (0 : Fin 1)).view.read (Elt F) (m ((c : Thread nD τ).loc main_arg0))

/-- What device `c`'s body starts from, apart from its buffers and debts. -/
def start (c : Dev nD) : sProp 𝕄 := iprop((∃ K, ghost (inputs m) K c) ∗ credits c ∗ levAts L lv)

def dats (_ : Fin 1) (c : Dev nD) : Dat τ (Elt F) Unit ℕ UU ℕ cfg0 c where
  A w := m ((cfg0.win w).arr.view.loc (c : Thread nD τ))
  after w _ := match w with
    | ⟨0, _⟩ => inputs m c
    | ⟨1, _⟩ => outAt (inputs m) c
  Φ t := match t with
    | ⟨0, _⟩ => start m c
    | ⟨_ + 1, _⟩ => zeros c
  q _ := fullShare
  owed t := match t with
    | ⟨0, _⟩ => O₀ c
    | ⟨_ + 1, _⟩ => 0

/-! ## The body -/

/-- A staging buffer owned at contents `X`. -/
abbrev holds (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

theorem owns_holds (c : Dev nD) (b : Ref sig .tc) (X : b.ty.Contents (Elt F)) :
    (owns (Ix := Unit) (Name := ℕ) (U := UU) (Lvl := ℕ) (c : Thread nD τ) (Memref.whole b) fullShare X : sProp 𝕄) = holds c b X := by
  unfold owns; simp only [Memref.view_whole, View.read_whole, View.set_whole]

/-- At the one point the input's staging buffer holds the input, whatever it held. -/
theorem before_input (c : Dev nD) (d) : (dats m 0 c).before (0 : Fin 2) t0_0 d = inputs m c := by
  unfold Dat.before
  rw [if_pos (show (cfg0.win (0 : Fin 2)).fetch t0_0 = true from rfl)]
  rfl

/-- The two ways to say what a device owes before and after. -/
theorem owesAt_owing (c : Dev nD) : (dats m 0 c).owesAt () t0_0.castSucc ⊢ owing c (O₀ c) := by
  unfold Dat.owesAt Pipeline.owesWithin owing
  iintro ⟨%W, -, H⟩
  iexists W; iexact H

theorem owing_owesAt (c : Dev nD) : owing c 0 ⊢ (dats m 0 c).owesAt () t0_0.succ := by
  unfold Dat.owesAt Pipeline.owesWithin owing
  iintro ⟨%W, H⟩
  iexists W
  isplitr; · ipureintro; exact fun _ _ => Or.inl trivial
  iexact H

def before (c : Dev nD) : sProp 𝕄 :=
  iprop(start m c ∗ (dats m 0 c).owesAt () t0_0.castSucc
    ∗ (∃ d, holds c cc0_stg0_0 ((dats m 0 c).before (0 : Fin 2) t0_0 d))
    ∗ (∃ d, holds c cc0_stg1_0 ((dats m 0 c).before (1 : Fin 2) t0_0 d)))

def afterwards (c : Dev nD) : sProp 𝕄 :=
  iprop(zeros c ∗ (dats m 0 c).owesAt () t0_0.succ ∗ holds c cc0_stg0_0 (inputs m c) ∗ holds c cc0_stg1_0 (outAt (inputs m) c))

theorem body_point (c : Dev nD) : before m c ⊢ wp frame (wpE (defs₀ (F := F)) 𝒱₀ c none) Set.univ
    (cc0_body (Memref.whole cc0_stg0_0) (Memref.isWhole_whole _) (Memref.whole cc0_stg1_0) (Memref.isWhole_whole _)
      cc0_scratch0 cc0_scratch1) (fun _ => afterwards m c) := by
  unfold before start
  iintro ⟨⟨⟨%K, Hg⟩, Hc, Hlev⟩, HO, ⟨%d0, %g0, %h0, Hx⟩, %d1, %g1, %h1, Hout⟩
  ihave HO' := (owesAt_owing m c) $$ HO
  rw [h0, before_input]
  iapply (body_run (inputs m) K c g1 fun _ => afterwards m c)
  unfold bodyFrom
  isplitr []
  · isplitl [Hg]; · iexact Hg
    isplitl [Hc]; · iexact Hc
    isplitl [Hlev]; · iexact Hlev
    isplitl [HO']; · iexact HO'
    isplitl [Hx] <;> iassumption
  unfold bodyTo afterwards
  iintro ⟨Hz, HO, Hx, Hout⟩
  isplitl [Hz]; · iexact Hz
  isplitl [HO]; · iapply (owing_owesAt m c); iexact HO
  isplitl [Hx]
  · iexists _; isplitr; · (ipureintro; rfl)
    iexact Hx
  iexists _; isplitr; · (ipureintro; rfl)
  iexact Hout

theorem body_obligation (c : Dev nD) : BodyObligation (dats (F := F) m 0 c) (defs₀ (F := F)) 𝒱₀ () Set.univ := fun t => by
  rw [show t = t0_0 from fin_N0 t]
  rw [show ∀ Φ : Fin cfg0.W → sProp 𝕄, bigSep Finset.univ Φ = iprop(Φ (0 : Fin 2) ∗ Φ (1 : Fin 2)) from bigSep_W0,
    show ∀ Φ : Fin cfg0.W → sProp 𝕄, bigSep Finset.univ Φ = iprop(Φ (0 : Fin 2) ∗ Φ (1 : Fin 2)) from bigSep_W0]
  simp only [owns_holds]
  exact body_point m c

/-! ## Semaphores at launch and at the end -/

theorem ownSemFacts : Pipeline.OwnSemFacts cfg0.spec osem := by decide

theorem ownSems0_eq (c : Dev nD) : (Pipeline.ownSems0 (Ix := Unit) (Name := ℕ) (U := UU) (Lvl := ℕ) (Val := Elt F) (τ := τ) osem c : sProp 𝕄)
    = iprop(semVal (ownCell c 0) 0 ∗ semVal (ownCell c 1) 0 ∗ semVal (ownCell c 2) 0 ∗ semVal (ownCell c 3) 0 ∗ semVal (ownCell c 4) 0
        ∗ semVal (ownCell c 5) 0) := by
  rw [Pipeline.ownSems0_eq_of_list c osem [0, 1, 2, 3, 4, 5] (by decide) (by decide)]; rfl

theorem unscopedSems0_eq (c : Dev nD) : (unscopedSems0 c : sProp 𝕄) = semVal (barCell c) 0 := by
  unfold unscopedSems0; rw [bigSep_eq_bigSepL_of_eq [SemLoc.reg barS] (by decide) (by decide)]; rfl

/-- The barrier's counter is the program's, the six others the kernel's. -/
theorem zeros_eq (c : Dev nD) : (zeros c : sProp 𝕄)
    = iprop(unscopedSems0 c ∗ Pipeline.ownSems0 (Ix := Unit) (Name := ℕ) (U := UU) (Lvl := ℕ) (Val := Elt F) (τ := τ) osem c) := by
  rw [ownSems0_eq, unscopedSems0_eq]
  unfold zeros
  rw [bigSep_seven]; rfl

/-! ## The launch -/

/-- The ghost state the launch is given. -/
def u₀ : UU := (initOf (Pipeline.cells cfgs cellOf_inj) (Pipeline.launchToks cfgs cellOf_inj), initOf cellSet tokSet)

theorem put_own (c : Dev nD) :
    iprop(Pipeline.ownSems0 (Ix := Unit) (Name := ℕ) (U := UU) (Lvl := ℕ) (Val := Elt F) (τ := τ) osem c
        ∗ unscopedSems0 c ∗ made (inputs m) c)
      ⊢ |={Set.univ}=> iprop((bigSep Finset.univ fun i : Fin 7 => iprop(∃ κ : ℕ, cellInv EX (plan (inputs m)) κ (cell (c, i))))
          ∗ (bigSep Finset.univ fun i : Fin 7 => reached EX (cell (c, i)) 0)
          ∗ places c ∗ bigSep Finset.univ fun k : Fin 3 => madeToks (c, k)) := by
  iintro ⟨Ho, Hu, H⟩
  iapply (put (inputs m) c)
  rw [zeros_eq]
  isplitr [H]
  · isplitl [Hu] <;> iassumption
  iexact H

theorem glob : (bigSep Finset.univ fun c => iprop(Pipeline.ownSems0 (Ix := Unit) (Name := ℕ) (U := UU) (Lvl := ℕ) (Val := Elt F) (τ := τ) osem c
        ∗ unscopedSems0 c ∗ made (inputs m) c) : sProp 𝕄)
    ⊢ |={Set.univ}=> bigSep Finset.univ fun c : Dev nD => iprop(∃ K, ghost (inputs m) K c) :=
  ((bigSep_mono fun c _ => (put_own m c)).trans (bigSep_fupd _ _)).trans (BI.fupd_mono (deal (inputs m)))

theorem share_eq (c : Dev nD) (w : Fin cfg0.W) : (dats m 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ ∃ K, ghost (inputs m) K c)
      ⊢ |={Set.univ}=> iprop(start m c ∗ emp) := by
  iintro ⟨-, Hlev, Hcr, -, HG⟩
  imodintro
  unfold start
  isplitl
  · isplitl [HG]; · iexact HG
    isplitl [Hcr]; · iapply (credits_intro (F := F) c); iexact Hcr
    iexact Hlev
  · iempintro

theorem enter (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = start m c from rfl]
  iintro ⟨H, -, -⟩
  iexact H

theorem leave (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = zeros c from rfl, scopedRest0_eq, zeros_eq]
  iintro ⟨Hu, Ho⟩
  isplitl [Hu]; · iexact Hu
  isplitl [Ho]; · iexact Ho
  iempintro

theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

/-- What an array ends at. -/
def finalA (c : Dev nD) (w : Fin cfg0.W) : Buf (Elt F) ((cfg0.win w).arr.view.loc (c : Thread nD τ)) := (dats m 0 c).arrAt w cfg0.N

set_option maxRecDepth 8000 in
/-- From any memory with zero counters and over any float values every weakly fair execution of the program on the
    32 devices terminates, with every array at what `finalA` says and every counter at zero. -/
theorem run_main : θ_run defs (onTc (τ := τ) (main (F := F))) (s₀ m ρ) (fun r =>
    (∀ c : Dev nD, ∀ w : Fin cfg0.W, r.2.mem ((cfg0.win w).arr.view.loc (c : Thread nD τ)) = finalA m c w) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0)
    (hshare := share_eq m)
    (hdistinct := winFacts0.arr_inj)
    (O₀ := O₀) (howed₀ := fun _ => rfl) (howedN := fun _ => rfl)
    (L := L) (lv := lv) (hL := L_of_ne) (hwaits := waits m)
    (G := made (inputs m)) (G' := fun c => iprop(∃ K, ghost (inputs m) K c)) (u₀ := u₀)
    (hu₀ := by
      unfold u₀
      iintro Hu
      ihave H := (ownU_pair _ _) $$ Hu
      icases H with ⟨HP, HX⟩
      imod (make (inputs m)) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := enter m) (hout := leave m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.Exchange

end
-- ==== Proof.Result.lean ====
/-
  The run read at the program's argument and result, and the result against the whole array: if the devices are given
  the blocks of rows of one array, they end with its blocks of columns.
-/
module

public import proofs.«01_k».proof.Proof.Launch
public import Idealize.ShloMosaic.Lib.Layout
public import Idealize.ShloMosaic.Lib.Pipeline.Value

@[expose] public section

noncomputable section

namespace Cert.Exchange

open Cert.KernelIdeal Cert.KernelIdeal.Gen

open Idealize.ShloMosaic
open Idealize.ShloMosaic.TcCoe
open Idealize.SL.Sem

variable {F : FTy → Type} [FloatOps F]

variable (m : (ℓ : Loc nD τ sig) → Buf (Elt F) ℓ) (ρ : Dev nD → PrngReg)

/-! ## The arrays after the run -/

/-- The one block of each window is its whole array. -/
theorem read_block0 (f : (main_arg0 : Ref sig .tc).ty.Contents (Elt F)) : (win0_0.blk (0 : Fin 1)).view.read (Elt F) f = f :=
  Memref.read_access_unit_zero (Elt F) main_arg0 (funext fun a => by fin_cases a <;> decide) (fun a => by fin_cases a <;> decide) f
theorem read_block1 (f : (main_v1 : Ref sig .tc).ty.Contents (Elt F)) : (win0_1.blk (0 : Fin 1)).view.read (Elt F) f = f :=
  Memref.read_access_unit_zero (Elt F) main_v1 (funext fun a => by fin_cases a <;> decide) (fun a => by fin_cases a <;> decide) f

theorem inputs_eq : inputs m = fun c : Dev nD => m ((c.tc : Thread nD τ).loc main_arg0) := funext fun c => read_block0 _

/-- The argument is only read; -/
theorem final_argument (c : Dev nD) : finalA m c (0 : Fin 2) = m ((c.tc : Thread nD τ).loc main_arg0) :=
  (dats (F := F) m 0 c).arrAt_in (0 : Fin 2) rfl _

/-- the result array is what the body left in the staging buffer. -/
theorem final_result (c : Dev nD) : finalA m c (1 : Fin 2) = outAt (inputs m) c := by
  refine (read_block1 _).symm.trans ?_
  unfold finalA
  rw [show cfg0.N = ((0 : Fin 1) : Fin cfg0.N).val + 1 from rfl, (dats m 0 c).arrAt_succ (1 : Fin 2) (0 : Fin 1),
    show (cfg0.win (1 : Fin 2)).flush (0 : Fin 1) = true from rfl, if_pos rfl]
  exact View.read_write_univ _ _

/-- From any memory with zero counters and over any float values every weakly fair execution on the 32 devices
    terminates. Each device's result is gathered from the arguments of its group, its argument is what it was, and every
    counter is zero. -/
theorem run_gathers : θ_run defs (onTc (τ := τ) (main (F := F))) (s₀ m ρ) (fun r =>
    (∀ c : Dev nD, r.2.mem ((c.tc : Thread nD τ).loc main_v1) = gathered (fun d : Dev nD => m ((d.tc : Thread nD τ).loc main_arg0)) c
      ∧ r.2.mem ((c.tc : Thread nD τ).loc main_arg0) = m ((c.tc : Thread nD τ).loc main_arg0))
    ∧ r.2.sem = fun _ => 0) :=
  (θ_run defs _ _).mono
    (fun _ h => ⟨fun c => ⟨(h.1 c (1 : Fin 2)).trans ((final_result m c).trans (by rw [inputs_eq]; rfl)),
      (h.1 c (0 : Fin 2)).trans (final_argument m c)⟩, h.2⟩)
    (run_main m ρ)

/-! ## Rows to columns -/

/-- If every device is given its block of rows of `v`, it gathers its block of columns of `v`. -/
theorem gathered_blocks {α : Type} (xs : Dev nD → S1024x2048.Idx → α) (v : (⟨2, ![4096, 2048]⟩ : Shape).Idx → α)
    (h : ∀ c : Dev nD, xs c = Layout.blockN ⟨2, ![1024, 2048]⟩ ⟨2, ![4096, 2048]⟩ (Layout.meshBlock [2, 4, 4] ![[2], []] c) v) (c : Dev nD) :
    gathered xs c = Layout.blockN ⟨2, ![4096, 512]⟩ ⟨2, ![4096, 2048]⟩ (Layout.meshBlock [2, 4, 4] ![[], [2]] c) v := by
  funext i
  unfold gathered
  rw [h]
  refine congrArg v (idx2_ext ?_ ?_)
  · show ((c.val / 4 * 4 + (i 0).val / 1024) / 1 % 4 * 1 + 0) * 1024 + (i 0).val % 1024 = 0 * 4096 + (i 0).val
    have hi : (i 0).val < 4096 := (i 0).isLt
    omega
  · show 0 * 2048 + (512 * (c.val % 4) + (i 1).val) = (c.val / 1 % 4 * 1 + 0) * 512 + (i 1).val
    omega

end Cert.Exchange

end
-- ==== Proof.Plain.lean ====
/-
  The reference: it returns its argument, so it runs no operation and leaves its one array as it is. Its two texts are
  the same, so one run over any float values serves both.
-/
module

public import proofs.«01_k».proof.Proof.Gen.ReferenceIdeal
public import proofs.«01_k».proof.Proof.Gen.Reference
public import Idealize.ShloMosaic.Lib.StableHlo.Run
public import Idealize.ShloMosaic.Lib.Quiescent

@[expose] public section

noncomputable section

namespace Cert.Plain

open Cert.ReferenceIdeal Cert.ReferenceIdeal.Gen
open Idealize.ShloMosaic Idealize.ShloMosaic.TcCoe Idealize.ShloMosaic.StableHlo Idealize.SL.Sem

variable {F : FTy → Type} [FloatOps F]

/-- From any memory with zero counters the reference ends with its argument, which is its result, as it was and with every
    counter at zero. -/
theorem run_returns (m : (ℓ : Loc nD τ sig) → Buf (Elt F) ℓ) (ρ : Dev nD → PrngReg) :
    θ_run defs (onTc (τ := τ) (main (F := F))) ⟨m, fun _ => 0, ρ⟩ fun r =>
      (∀ c : Dev nD, r.2.mem ((c.tc : Thread nD τ).loc main_arg0) = m ((c.tc : Thread nD τ).loc main_arg0)) ∧ r.2.sem = fun _ => 0 :=
  (θ_run defs _ _).mono (fun r h => ⟨fun c => h c main_arg0, sem_eq_zero_of_no_sems (by decide) r.2⟩)
    (run_seq (by decide) (by decide) defs main (fun _ => []) (fun _ => rfl) (fun _ => trivial) m ρ)

end Cert.Plain

end
-- ==== Proof.lean ====
/-
  The proof of `Cert.Claim`. The kernel as written and the kernel read with exact floats have the same text, and so do the
  two references. Each pair is run once, over any float values.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Reference
public import proofs.«01_k».proof.Proof.Result
public import proofs.«01_k».proof.Proof.Plain
public import Idealize.ShloMosaic.Adequacy
public import Idealize.ShloMosaic.Init

@[expose] public section

noncomputable section

namespace Cert.Proof

open Idealize.ShloMosaic Idealize.SL.Sem Cert.Exchange Cert.Plain

/-! ## The kernel as written -/

/-- Its body table is the exact kernel's, entry by entry. -/
theorem bodies_same : Cert.Kernel.defs₀ (F := Bits) = Cert.KernelIdeal.defs₀ (F := Bits) :=
  congrArg Defs.onTc (funext fun l => funext fun a => by
    match l, a with
    | 0, (_, _) => rfl
    | ⟨_ + 1, h⟩, _ => exact absurd h (Nat.not_lt.2 (Nat.le_add_left _ _)))

theorem defs_same : Cert.Kernel.defs (F := Bits) = Cert.KernelIdeal.defs (F := Bits) :=
  congrArg (Pipeline.defs (Cert.KernelIdeal.pcfgs (F := Bits))) bodies_same

/-- So it runs as that one does. -/
theorem run_bits (m : (ℓ : Loc Cert.Kernel.nD Cert.Kernel.τ Cert.Kernel.sig) → Buf (Elt Bits) ℓ) (ρ : Dev Cert.Kernel.nD → PrngReg) :
    θ_run (Cert.Kernel.defs (F := Bits)) (onTc (τ := Cert.Kernel.τ) (Cert.Kernel.main (F := Bits))) ⟨m, fun _ => 0, ρ⟩ (fun r =>
      (∀ c : Dev Cert.Kernel.nD,
        r.2.mem ((c.tc : Thread Cert.Kernel.nD Cert.Kernel.τ).loc Cert.Kernel.main_v1)
            = gathered (fun d : Dev Cert.Kernel.nD => m ((d.tc : Thread Cert.Kernel.nD Cert.Kernel.τ).loc Cert.Kernel.main_arg0)) c
          ∧ r.2.mem ((c.tc : Thread Cert.Kernel.nD Cert.Kernel.τ).loc Cert.Kernel.main_arg0)
            = m ((c.tc : Thread Cert.Kernel.nD Cert.Kernel.τ).loc Cert.Kernel.main_arg0))
      ∧ r.2.sem = fun _ => 0) := by
  rw [defs_same]
  exact run_gathers (F := Bits) m ρ

/-! ## The runs end, with the arguments unchanged and every counter at zero -/

theorem frame_kernel : Cert.quiescent_Kernel := fun m ρ _ =>
  (θ_run Cert.Kernel.defs _ _).mono (fun _ h => ⟨fun c => (h.1 c).2, h.2⟩) (run_bits m ρ)

theorem frame_kernel_ideal : Cert.quiescent_KernelIdeal := fun m ρ _ =>
  (θ_run Cert.KernelIdeal.defs _ _).mono (fun _ h => ⟨fun c => (h.1 c).2, h.2⟩) (run_gathers (F := Ideal) m ρ)

theorem frame_reference_ideal : Cert.quiescent_ReferenceIdeal := fun m ρ _ => run_returns (F := Ideal) m ρ

theorem frame_reference : Cert.quiescent_Reference := fun m ρ _ => run_returns (F := Bits) m ρ

/-! ## The values -/

/-- With exact floats: the devices, given the reference's argument by blocks of rows, end with its result by blocks of
    columns. -/
theorem value_ideal : Cert.algebraic_KernelIdeal_ReferenceIdeal := fun m ρ m' ρ' _ hin =>
  ⟨_, (θ_run Cert.KernelIdeal.defs _ _).mono (fun _ h c => ⟨(h.1 c).1.trans (gathered_blocks _ _ hin c), (h.1 c).2⟩)
      (run_gathers (F := Ideal) m ρ),
    (θ_run Cert.ReferenceIdeal.defs _ _).mono (fun _ h => ⟨h.1 0, h.1 0⟩) (run_returns (F := Ideal) m' ρ')⟩

/-- The same bit for bit: no float is computed with, only moved. -/
theorem value_bits : Cert.bitexact_Kernel_Reference := fun m ρ m' ρ' _ hin =>
  ⟨_, (θ_run Cert.Kernel.defs _ _).mono (fun _ h c => ⟨(h.1 c).1.trans (gathered_blocks _ _ hin c), (h.1 c).2⟩)
      (run_bits m ρ),
    (θ_run Cert.Reference.defs _ _).mono (fun _ h => ⟨h.1 0, h.1 0⟩) (run_returns (F := Bits) m' ρ')⟩

theorem claim : Cert.Claim :=
  ⟨Cert.Kernel.Gen.facts, Cert.KernelIdeal.Gen.facts, Cert.ReferenceIdeal.Gen.facts, Cert.Reference.Gen.facts,
    frame_kernel, frame_kernel_ideal, frame_reference_ideal, frame_reference, trivial, value_ideal, value_bits⟩

end Cert.Proof

end
